-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_moderate_KernelIdeal [hPre_moderate_KernelIdeal : Cert.Pre_moderate_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_moderate_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ClippedIdeal (m : (ℓ : Loc Cert.ClippedIdeal.nD Cert.ClippedIdeal.τ Cert.ClippedIdeal.sig) → Buf (Elt Ideal) ℓ) : Prop :=
  True

def Pre_ClippedIdeal_moderate_ClippedIdeal [hPre_moderate_ClippedIdeal : Cert.Pre_moderate_ClippedIdeal.Facts] (m : (ℓ : Loc Cert.ClippedIdeal.nD Cert.ClippedIdeal.τ Cert.ClippedIdeal.sig) → Buf (Elt Ideal) ℓ) : Prop :=
  ∀ c : Dev Cert.ClippedIdeal.nD,
    (Cert.Pre_moderate_ClippedIdeal.fn (F := Ideal) (m ((c.tc : Thread Cert.ClippedIdeal.nD Cert.ClippedIdeal.τ).loc Cert.ClippedIdeal.main_arg0)) (m ((c.tc : Thread Cert.ClippedIdeal.nD Cert.ClippedIdeal.τ).loc Cert.ClippedIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_moderate_KernelIdeal [hKernelIdeal : Cert.KernelIdeal.Facts] [hPre_moderate_KernelIdeal : Cert.Pre_moderate_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_moderate_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ClippedIdeal [hClippedIdeal : Cert.ClippedIdeal.Facts] : Prop :=
  ∀ (m : (ℓ : Loc Cert.ClippedIdeal.nD Cert.ClippedIdeal.τ Cert.ClippedIdeal.sig) → Buf (Elt Ideal) ℓ) (g : Dev Cert.ClippedIdeal.nD → PrngReg), Pre_ClippedIdeal m →
    θ_run (Cert.ClippedIdeal.defs (F := Ideal)) (onTc (τ := Cert.ClippedIdeal.τ) (Cert.ClippedIdeal.main (F := Ideal))) ⟨m, fun _ => 0, g⟩ (fun r => (∀ c : Dev Cert.ClippedIdeal.nD,
      r.2.mem ((c.tc : Thread Cert.ClippedIdeal.nD Cert.ClippedIdeal.τ).loc Cert.ClippedIdeal.main_arg0) = m ((c.tc : Thread Cert.ClippedIdeal.nD Cert.ClippedIdeal.τ).loc Cert.ClippedIdeal.main_arg0)
      ∧ r.2.mem ((c.tc : Thread Cert.ClippedIdeal.nD Cert.ClippedIdeal.τ).loc Cert.ClippedIdeal.main_arg1) = m ((c.tc : Thread Cert.ClippedIdeal.nD Cert.ClippedIdeal.τ).loc Cert.ClippedIdeal.main_arg1))
      ∧ r.2.sem = fun _ => 0)

def quiescent_ClippedIdeal_pre_moderate_ClippedIdeal [hClippedIdeal : Cert.ClippedIdeal.Facts] [hPre_moderate_ClippedIdeal : Cert.Pre_moderate_ClippedIdeal.Facts] : Prop :=
  ∀ (m : (ℓ : Loc Cert.ClippedIdeal.nD Cert.ClippedIdeal.τ Cert.ClippedIdeal.sig) → Buf (Elt Ideal) ℓ) (g : Dev Cert.ClippedIdeal.nD → PrngReg), Pre_ClippedIdeal_moderate_ClippedIdeal m →
    θ_run (Cert.ClippedIdeal.defs (F := Ideal)) (onTc (τ := Cert.ClippedIdeal.τ) (Cert.ClippedIdeal.main (F := Ideal))) ⟨m, fun _ => 0, g⟩ (fun r => (∀ c : Dev Cert.ClippedIdeal.nD,
      r.2.mem ((c.tc : Thread Cert.ClippedIdeal.nD Cert.ClippedIdeal.τ).loc Cert.ClippedIdeal.main_arg0) = m ((c.tc : Thread Cert.ClippedIdeal.nD Cert.ClippedIdeal.τ).loc Cert.ClippedIdeal.main_arg0)
      ∧ r.2.mem ((c.tc : Thread Cert.ClippedIdeal.nD Cert.ClippedIdeal.τ).loc Cert.ClippedIdeal.main_arg1) = m ((c.tc : Thread Cert.ClippedIdeal.nD Cert.ClippedIdeal.τ).loc Cert.ClippedIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![8192, 2048]⟩ ⟨2, ![8192, 8192]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = Layout.block ⟨2, ![2048, 4096]⟩ ⟨2, ![8192, 4096]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v5) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ClippedIdeal_pre_moderate_KernelIdeal [hKernelIdeal : Cert.KernelIdeal.Facts] [hClippedIdeal : Cert.ClippedIdeal.Facts] [hPre_moderate_KernelIdeal : Cert.Pre_moderate_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ClippedIdeal.nD Cert.ClippedIdeal.τ Cert.ClippedIdeal.sig) → Buf (Elt Ideal) ℓ) (g' : Dev Cert.ClippedIdeal.nD → PrngReg), Pre_KernelIdeal_moderate_KernelIdeal m →
    (∀ c : Dev Cert.KernelIdeal.nD,
      m ((c.tc : Thread Cert.KernelIdeal.nD Cert.KernelIdeal.τ).loc Cert.KernelIdeal.main_arg0) = Layout.block ⟨2, ![8192, 2048]⟩ ⟨2, ![8192, 8192]⟩ 1 4 c (m' (((0 : Dev Cert.ClippedIdeal.nD).tc : Thread Cert.ClippedIdeal.nD Cert.ClippedIdeal.τ).loc Cert.ClippedIdeal.main_arg0))
      ∧ m ((c.tc : Thread Cert.KernelIdeal.nD Cert.KernelIdeal.τ).loc Cert.KernelIdeal.main_arg1) = m' (((0 : Dev Cert.ClippedIdeal.nD).tc : Thread Cert.ClippedIdeal.nD Cert.ClippedIdeal.τ).loc Cert.ClippedIdeal.main_arg1)) →
    ∃ (v0 : Buf (Elt Ideal) (((0 : Dev Cert.ClippedIdeal.nD).tc : Thread Cert.ClippedIdeal.nD Cert.ClippedIdeal.τ).loc Cert.ClippedIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = Layout.block ⟨2, ![2048, 4096]⟩ ⟨2, ![8192, 4096]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ClippedIdeal.defs (F := Ideal)) (onTc (τ := Cert.ClippedIdeal.τ) (Cert.ClippedIdeal.main (F := Ideal))) ⟨m', fun _ => 0, g'⟩ (fun r =>
          r.2.mem (((0 : Dev Cert.ClippedIdeal.nD).tc : Thread Cert.ClippedIdeal.nD Cert.ClippedIdeal.τ).loc Cert.ClippedIdeal.main_v6) = v0
          ∧ r.2.mem (((0 : Dev Cert.ClippedIdeal.nD).tc : Thread Cert.ClippedIdeal.nD Cert.ClippedIdeal.τ).loc Cert.ClippedIdeal.main_arg0) = m' (((0 : Dev Cert.ClippedIdeal.nD).tc : Thread Cert.ClippedIdeal.nD Cert.ClippedIdeal.τ).loc Cert.ClippedIdeal.main_arg0)
          ∧ r.2.mem (((0 : Dev Cert.ClippedIdeal.nD).tc : Thread Cert.ClippedIdeal.nD Cert.ClippedIdeal.τ).loc Cert.ClippedIdeal.main_arg1) = m' (((0 : Dev Cert.ClippedIdeal.nD).tc : Thread Cert.ClippedIdeal.nD Cert.ClippedIdeal.τ).loc Cert.ClippedIdeal.main_arg1))

def Claim : Prop :=
  ∃ (hKernel : Cert.Kernel.Facts) (hKernelIdeal : Cert.KernelIdeal.Facts) (hReferenceIdeal : Cert.ReferenceIdeal.Facts) (hClippedIdeal : Cert.ClippedIdeal.Facts) (hPre_moderate_KernelIdeal : Cert.Pre_moderate_KernelIdeal.Facts) (hPre_moderate_ClippedIdeal : Cert.Pre_moderate_ClippedIdeal.Facts),
    quiescent_Kernel (hKernel := hKernel)
    ∧ quiescent_KernelIdeal (hKernelIdeal := hKernelIdeal)
    ∧ quiescent_KernelIdeal_pre_moderate_KernelIdeal (hKernelIdeal := hKernelIdeal) (hPre_moderate_KernelIdeal := hPre_moderate_KernelIdeal)
    ∧ quiescent_ReferenceIdeal (hReferenceIdeal := hReferenceIdeal)
    ∧ quiescent_ClippedIdeal (hClippedIdeal := hClippedIdeal)
    ∧ quiescent_ClippedIdeal_pre_moderate_ClippedIdeal (hClippedIdeal := hClippedIdeal) (hPre_moderate_ClippedIdeal := hPre_moderate_ClippedIdeal)
    ∧ preserves_Kernel_KernelIdeal
    ∧ algebraic_KernelIdeal_ReferenceIdeal (hKernelIdeal := hKernelIdeal) (hReferenceIdeal := hReferenceIdeal)
    ∧ algebraic_KernelIdeal_ClippedIdeal_pre_moderate_KernelIdeal (hKernelIdeal := hKernelIdeal) (hClippedIdeal := hClippedIdeal) (hPre_moderate_KernelIdeal := hPre_moderate_KernelIdeal)
-- ==== Pre_moderate_ClippedIdeal.lean ====
abbrev S8192x8192 : Shape := ⟨2, ![8192, 8192]⟩
abbrev S8192x4096 : Shape := ⟨2, ![8192, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  dot_S8192x8192_S8192x4096_S8192x4096_1_0_0_1_n_n_wf : DotDims.WF S8192x8192 S8192x4096 S8192x4096 [1] [0] [0] [1] [] []

variable [Facts]

def dot_S8192x8192_S8192x4096_S8192x4096_1_0_0_1_n_n : DotDims S8192x8192 S8192x4096 S8192x4096 where
  lhsContracting := [1]
  rhsContracting := [0]
  lhsNonContracting := [0]
  rhsNonContracting := [1]
  lhsBatch := []
  rhsBatch := []
  wf := dot_S8192x8192_S8192x4096_S8192x4096_1_0_0_1_n_n_wf
def fn {F : FTy → Type} [FloatOps F] (main_arg0 : FVec F S8192x8192 .f32) (main_arg1 : FVec F S8192x4096 .f32) : IVec S_ 1 :=
  let main_v0 : FVec F S8192x4096 .f32 := (fun l r => Host.dotGeneral dot_S8192x8192_S8192x4096_S8192x4096_1_0_0_1_n_n none l r) main_arg0 main_arg1
  let main_v1 : FVec F S8192x4096 .f32 := Host.absf main_v0
  let main_cst : FVec F S_ .f32 := constant S_ .f32 0x41700000#32
  let main_v2 : FVec F S8192x4096 .f32 := broadcastInDim S8192x4096 ![] bcast_S_S8192x4096 main_cst
  let main_v3 : IVec S8192x4096 1 := cmpf .ole main_v1 main_v2
  let main_c : IVec S_ 1 := constantI S_ 1 1#1
  let main_v4 : IVec S_ 1 := (fun x v => Host.reduce IntOp.andi x v reducesTo_S8192x4096_S_d0_1 h_S_) main_v3 main_c
  let main_c_0 : IVec S_ 1 := constantI S_ 1 1#1
  let main_v5 : IVec S_ 1 := andi main_c_0 main_v4
  main_v5
-- ==== Pre_moderate_KernelIdeal.lean ====
abbrev S8192x2048 : Shape := ⟨2, ![8192, 2048]⟩
abbrev S8192x4096 : Shape := ⟨2, ![8192, 4096]⟩
abbrev S2048x4096 : Shape := ⟨2, ![2048, 4096]⟩
abbrev S_ : Shape := ⟨0, ![]⟩

class Facts : Prop where
  slices_S8192x4096_S2048x4096_0_0 : S8192x4096.Slices ![0, 0] S2048x4096
  bcast_S_S8192x4096 : S_.BroadcastsInDim S8192x4096 (![] : Fin 0 → Fin S8192x4096.rank)
  reducesTo_S8192x4096_S_d0_1 : S8192x4096.ReducesTo [0, 1] S_
  h_S_ : 0 < S_.numel
  slices_S8192x4096_S2048x4096_2048_0 : S8192x4096.Slices ![2048, 0] S2048x4096
  slices_S8192x4096_S2048x4096_4096_0 : S8192x4096.Slices ![4096, 0] S2048x4096
  slices_S8192x4096_S2048x4096_6144_0 : S8192x4096.Slices ![6144, 0] S2048x4096
  dot_S8192x2048_S2048x4096_S8192x4096_1_0_0_1_n_n_wf : DotDims.WF S8192x2048 S2048x4096 S8192x4096 [1] [0] [0] [1] [] []

variable [Facts]

def dot_S8192x2048_S2048x4096_S8192x4096_1_0_0_1_n_n : DotDims S8192x2048 S2048x4096 S8192x4096 where
  lhsContracting := [1]
  rhsContracting := [0]
  lhsNonContracting := [0]
  rhsNonContracting := [1]
  lhsBatch := []
  rhsBatch := []
  wf := dot_S8192x2048_S2048x4096_S8192x4096_1_0_0_1_n_n_wf
def fn_part1 {F : FTy → Type} [FloatOps F] (main_arg0 : FVec F S8192x2048 .f32) (main_arg1 : FVec F S8192x4096 .f32) (main_v13 : IVec S_ 1) (main_v16 : FVec F S8192x4096 .f32) (main_v17 : FVec F S8192x4096 .f32) : IVec S_ 1 :=
  let main_v18 : IVec S8192x4096 1 := cmpf .ole main_v16 main_v17
  let main_c_4 : IVec S_ 1 := constantI S_ 1 1#1
  let main_v19 : IVec S_ 1 := (fun x v => Host.reduce IntOp.andi x v reducesTo_S8192x4096_S_d0_1 h_S_) main_v18 main_c_4
  let main_v20 : IVec S_ 1 := andi main_v13 main_v19
  let main_v21 : FVec F S2048x4096 .f32 := (extractStridedSlice S2048x4096 ![6144, 0] · slices_S8192x4096_S2048x4096_6144_0) main_arg1
  let main_v22 : FVec F S8192x4096 .f32 := (fun l r => Host.dotGeneral dot_S8192x2048_S2048x4096_S8192x4096_1_0_0_1_n_n none l r) main_arg0 main_v21
  let main_v23 : FVec F S8192x4096 .f32 := Host.absf main_v22
  let main_cst_5 : FVec F S_ .f32 := constant S_ .f32 0x41700000#32
  let main_v24 : FVec F S8192x4096 .f32 := broadcastInDim S8192x4096 ![] bcast_S_S8192x4096 main_cst_5
  let main_v25 : IVec S8192x4096 1 := cmpf .ole main_v23 main_v24
  let main_c_6 : IVec S_ 1 := constantI S_ 1 1#1
  let main_v26 : IVec S_ 1 := (fun x v => Host.reduce IntOp.andi x v reducesTo_S8192x4096_S_d0_1 h_S_) main_v25 main_c_6
  let main_v27 : IVec S_ 1 := andi main_v20 main_v26
  main_v27

def fn {F : FTy → Type} [FloatOps F] (main_arg0 : FVec F S8192x2048 .f32) (main_arg1 : FVec F S8192x4096 .f32) : IVec S_ 1 :=
  let main_v0 : FVec F S2048x4096 .f32 := (extractStridedSlice S2048x4096 ![0, 0] · slices_S8192x4096_S2048x4096_0_0) main_arg1
  let main_v1 : FVec F S8192x4096 .f32 := (fun l r => Host.dotGeneral dot_S8192x2048_S2048x4096_S8192x4096_1_0_0_1_n_n none l r) main_arg0 main_v0
  let main_v2 : FVec F S8192x4096 .f32 := Host.absf main_v1
  let main_cst : FVec F S_ .f32 := constant S_ .f32 0x41700000#32
  let main_v3 : FVec F S8192x4096 .f32 := broadcastInDim S8192x4096 ![] bcast_S_S8192x4096 main_cst
  let main_v4 : IVec S8192x4096 1 := cmpf .ole main_v2 main_v3
  let main_c : IVec S_ 1 := constantI S_ 1 1#1
  let main_v5 : IVec S_ 1 := (fun x v => Host.reduce IntOp.andi x v reducesTo_S8192x4096_S_d0_1 h_S_) main_v4 main_c
  let main_c_0 : IVec S_ 1 := constantI S_ 1 1#1
  let main_v6 : IVec S_ 1 := andi main_c_0 main_v5
  let main_v7 : FVec F S2048x4096 .f32 := (extractStridedSlice S2048x4096 ![2048, 0] · slices_S8192x4096_S2048x4096_2048_0) main_arg1
  let main_v8 : FVec F S8192x4096 .f32 := (fun l r => Host.dotGeneral dot_S8192x2048_S2048x4096_S8192x4096_1_0_0_1_n_n none l r) main_arg0 main_v7
  let main_v9 : FVec F S8192x4096 .f32 := Host.absf main_v8
  let main_cst_1 : FVec F S_ .f32 := constant S_ .f32 0x41700000#32
  let main_v10 : FVec F S8192x4096 .f32 := broadcastInDim S8192x4096 ![] bcast_S_S8192x4096 main_cst_1
  let main_v11 : IVec S8192x4096 1 := cmpf .ole main_v9 main_v10
  let main_c_2 : IVec S_ 1 := constantI S_ 1 1#1
  let main_v12 : IVec S_ 1 := (fun x v => Host.reduce IntOp.andi x v reducesTo_S8192x4096_S_d0_1 h_S_) main_v11 main_c_2
  let main_v13 : IVec S_ 1 := andi main_v6 main_v12
  let main_v14 : FVec F S2048x4096 .f32 := (extractStridedSlice S2048x4096 ![4096, 0] · slices_S8192x4096_S2048x4096_4096_0) main_arg1
  let main_v15 : FVec F S8192x4096 .f32 := (fun l r => Host.dotGeneral dot_S8192x2048_S2048x4096_S8192x4096_1_0_0_1_n_n none l r) main_arg0 main_v14
  let main_v16 : FVec F S8192x4096 .f32 := Host.absf main_v15
  let main_cst_3 : FVec F S_ .f32 := constant S_ .f32 0x41700000#32
  let main_v17 : FVec F S8192x4096 .f32 := broadcastInDim S8192x4096 ![] bcast_S_S8192x4096 main_cst_3
  fn_part1 (F := F) main_arg0 main_arg1 main_v13 main_v16 main_v17
-- ==== Kernel.lean ====
abbrev S8192x2048 : Shape := ⟨2, ![8192, 2048]⟩
abbrev S8192x4096 : Shape := ⟨2, ![8192, 4096]⟩
abbrev S2048x4096 : Shape := ⟨2, ![2048, 4096]⟩
abbrev S4x2048x2048 : Shape := ⟨3, ![4, 2048, 2048]⟩
abbrev S3x2048x2048 : Shape := ⟨3, ![3, 2048, 2048]⟩
abbrev S512x2048 : Shape := ⟨2, ![512, 2048]⟩
abbrev S1024x2048 : Shape := ⟨2, ![1024, 2048]⟩
abbrev S2x2048x512 : Shape := ⟨3, ![2, 2048, 512]⟩
abbrev S3x2 : Shape := ⟨2, ![3, 2]⟩
abbrev S_ : Shape := ⟨0, ![]⟩
abbrev S2 : Shape := ⟨1, ![2]⟩
abbrev S1x512x2048 : Shape := ⟨3, ![1, 512, 2048]⟩
abbrev S1x1 : Shape := ⟨2, ![1, 1]⟩
abbrev S1x1024x2048 : Shape := ⟨3, ![1, 1024, 2048]⟩
abbrev S1 : Shape := ⟨1, ![1]⟩
abbrev S1x2048x512 : Shape := ⟨3, ![1, 2048, 512]⟩
abbrev S2048x512 : Shape := ⟨2, ![2048, 512]⟩
abbrev S1024x512 : Shape := ⟨2, ![1024, 512]⟩
abbrev S1024x4096 : Shape := ⟨2, ![1024, 4096]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S8192x4096, .f32⟩
  | .hbm, ⟨2, _⟩ => ⟨S2048x4096, .f32⟩
  | .hbm, ⟨3, _⟩ => ⟨S4x2048x2048, .bf16⟩
  | .hbm, ⟨4, _⟩ => ⟨S3x2048x2048, .bf16⟩
  | .local _ .vmem, ⟨0, _⟩ => ⟨S512x2048, .f32⟩
  | .local _ .vmem, ⟨1, _⟩ => ⟨S512x2048, .bf16⟩
  | .local _ .vmem, ⟨2, _⟩ => ⟨S1024x2048, .f32⟩
  | .local _ .vmem, ⟨3, _⟩ => ⟨S1024x2048, .bf16⟩
  | .local _ .vmem, ⟨4, _⟩ => ⟨S2x2048x512, .f32⟩
  | .local _ .vmem, ⟨5, _⟩ => ⟨S2048x4096, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  (ofTc nBuf bufTy 1 19 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1_0 : Ref sig .tc := ⟨.hbm, 2, rfl⟩
abbrev main_v1_1 : Ref sig .tc := ⟨.hbm, 3, rfl⟩
abbrev main_v1_2 : Ref sig .tc := ⟨.hbm, 4, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let v5 : BitVec 32 := Scalar.remsi v4 c4_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_4 : BitVec 32 := 4#32
  let v9 : BitVec 32 := Scalar.remsi v8 c4_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v12 : BitVec 32 := Scalar.addi v2 c3_i32
  let c4_i32_8 : BitVec 32 := 4#32
  let v13 : BitVec 32 := Scalar.remsi v12 c4_i32_8
  let c1_i32_10 : BitVec 32 := 1#32
  let v14 : BitVec 32 := Scalar.muli v13 c1_i32_10
  let v15 : BitVec 32 := Scalar.addi c0_i32_11 v14
  v15.toNat
def k0_off1 (d0 : Dev nD) (c1_i32_13 : BitVec 32) (c0_i32_15 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v16 : BitVec 32 := Scalar.addi v2 c1_i32_13
  let c4_i32_14 : BitVec 32 := 4#32
  let v17 : BitVec 32 := Scalar.remsi v16 c4_i32_14
  let c2048_i32 : BitVec 32 := 2048#32
  let v18 : BitVec 32 := Scalar.muli v17 c2048_i32
  let v19 : BitVec 32 := Scalar.addi v18 c0_i32_15
  let c0_i32_16 : BitVec 32 := 0#32
  ![v19.toNat, 0]
def k0_off2 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_47 : BitVec 32 := 0#32
  let c0_i32_48 : BitVec 32 := 0#32
  ![v2.toNat, 0, 0]
def k0_dev4 (d0 : Dev nD) : Nat :=
  let c0_i32_46 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_13 : BitVec 32 := 1#32
  let v16 : BitVec 32 := Scalar.addi v2 c1_i32_13
  let c4_i32_14 : BitVec 32 := 4#32
  let v17 : BitVec 32 := Scalar.remsi v16 c4_i32_14
  let c1_i32_45 : BitVec 32 := 1#32
  let v44 : BitVec 32 := Scalar.muli v17 c1_i32_45
  let v45 : BitVec 32 := Scalar.addi c0_i32_46 v44
  v45.toNat
def k0_off3 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_84 : BitVec 32 := 1024#32
  let c0_i32_85 : BitVec 32 := 0#32
  ![v2.toNat, 1024, 0]
def k0_dev5 (d0 : Dev nD) : Nat :=
  let c0_i32_83 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_13 : BitVec 32 := 1#32
  let v16 : BitVec 32 := Scalar.addi v2 c1_i32_13
  let c4_i32_14 : BitVec 32 := 4#32
  let v17 : BitVec 32 := Scalar.remsi v16 c4_i32_14
  let c1_i32_82 : BitVec 32 := 1#32
  let v80 : BitVec 32 := Scalar.muli v17 c1_i32_82
  let v81 : BitVec 32 := Scalar.addi c0_i32_83 v80
  v81.toNat
def k0_dev6 (d0 : Dev nD) : Nat :=
  let c0_i32_124 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_88 : BitVec 32 := 2#32
  let v90 : BitVec 32 := Scalar.addi v2 c2_i32_88
  let c4_i32_89 : BitVec 32 := 4#32
  let v91 : BitVec 32 := Scalar.remsi v90 c4_i32_89
  let c1_i32_123 : BitVec 32 := 1#32
  let v118 : BitVec 32 := Scalar.muli v91 c1_i32_123
  let v119 : BitVec 32 := Scalar.addi c0_i32_124 v118
  v119.toNat
def k0_dev7 (d0 : Dev nD) : Nat :=
  let c0_i32_163 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_88 : BitVec 32 := 2#32
  let v90 : BitVec 32 := Scalar.addi v2 c2_i32_88
  let c4_i32_89 : BitVec 32 := 4#32
  let v91 : BitVec 32 := Scalar.remsi v90 c4_i32_89
  let c1_i32_162 : BitVec 32 := 1#32
  let v154 : BitVec 32 := Scalar.muli v91 c1_i32_162
  let v155 : BitVec 32 := Scalar.addi c0_i32_163 v154
  v155.toNat
def k0_dev8 (d0 : Dev nD) : Nat :=
  let c0_i32_204 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_168 : BitVec 32 := 3#32
  let v164 : BitVec 32 := Scalar.addi v2 c3_i32_168
  let c4_i32_169 : BitVec 32 := 4#32
  let v165 : BitVec 32 := Scalar.remsi v164 c4_i32_169
  let c1_i32_203 : BitVec 32 := 1#32
  let v192 : BitVec 32 := Scalar.muli v165 c1_i32_203
  let v193 : BitVec 32 := Scalar.addi c0_i32_204 v192
  v193.toNat
def k0_dev9 (d0 : Dev nD) : Nat :=
  let c0_i32_243 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_168 : BitVec 32 := 3#32
  let v164 : BitVec 32 := Scalar.addi v2 c3_i32_168
  let c4_i32_169 : BitVec 32 := 4#32
  let v165 : BitVec 32 := Scalar.remsi v164 c4_i32_169
  let c1_i32_242 : BitVec 32 := 1#32
  let v228 : BitVec 32 := Scalar.muli v165 c1_i32_242
  let v229 : BitVec 32 := Scalar.addi c0_i32_243 v228
  v229.toNat
def k0_off4 (d0 : Dev nD) (c0_i32_251 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32_250 : BitVec 32 := 2048#32
  let v240 : BitVec 32 := Scalar.muli v2 c2048_i32_250
  let v241 : BitVec 32 := Scalar.addi v240 c0_i32_251
  let c0_i32_252 : BitVec 32 := 0#32
  ![v241.toNat, 0]
def k0_off5 (d0 : Dev nD) (c0_i32_248 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v238 : BitVec 32 := Scalar.addi v2 c0_i32_248
  let c4_i32_249 : BitVec 32 := 4#32
  let v239 : BitVec 32 := Scalar.remsi v238 c4_i32_249
  let c2048_i32_253 : BitVec 32 := 2048#32
  let v243 : BitVec 32 := Scalar.muli v239 c2048_i32_253
  let c0_i32_258 : BitVec 32 := 0#32
  ![v243.toNat, 0]
def k0_off6 (d0 : Dev nD) (c0_i32_248 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v238 : BitVec 32 := Scalar.addi v2 c0_i32_248
  let c4_i32_249 : BitVec 32 := 4#32
  let v239 : BitVec 32 := Scalar.remsi v238 c4_i32_249
  let c2048_i32_259 : BitVec 32 := 2048#32
  let v249 : BitVec 32 := Scalar.muli v239 c2048_i32_259
  let c512_i32_264 : BitVec 32 := 512#32
  ![v249.toNat, 512]
@[reducible] def k0_t1_loop : Scf.Loop 32 :=
  let c0_i32_266 : BitVec 32 := 0#32
  let c8_i32 : BitVec 32 := 8#32
  let v256 : BitVec 32 := Scalar.addi c0_i32_266 c8_i32
  let c1_i32_267 : BitVec 32 := 1#32
  ⟨c0_i32_266, v256, c1_i32_267⟩
def k0_off7 (k0_t1 : Fin k0_t1_loop.trips) : Fin 1 → Nat :=
  let c0_i32_266 : BitVec 32 := 0#32
  let c1_i32_267 : BitVec 32 := 1#32
  let arg18 : BitVec 32 := Scf.iv c0_i32_266 c1_i32_267 k0_t1
  let c2_i32_581 : BitVec 32 := 2#32
  let v496 : BitVec 32 := Scalar.remsi arg18 c2_i32_581
  ![v496.toNat]
def k0_off8 (k0_t1 : Fin k0_t1_loop.trips) : Fin 3 → Nat :=
  let c0_i32_266 : BitVec 32 := 0#32
  let c1_i32_267 : BitVec 32 := 1#32
  let arg18 : BitVec 32 := Scf.iv c0_i32_266 c1_i32_267 k0_t1
  let c2_i32_581 : BitVec 32 := 2#32
  let v496 : BitVec 32 := Scalar.remsi arg18 c2_i32_581
  let c0_i32_582 : BitVec 32 := 0#32
  let c0_i32_583 : BitVec 32 := 0#32
  ![v496.toNat, 0, 0]
def k0_off9 (k0_t1 : Fin k0_t1_loop.trips) : Fin 3 → Nat :=
  let c0_i32_266 : BitVec 32 := 0#32
  let c1_i32_267 : BitVec 32 := 1#32
  let arg18 : BitVec 32 := Scf.iv c0_i32_266 c1_i32_267 k0_t1
  let c2_i32_581 : BitVec 32 := 2#32
  let v496 : BitVec 32 := Scalar.remsi arg18 c2_i32_581
  let v503 : Index := Scalar.indexCast v496
  let c0_588 : Index := 0#32
  let c0_589 : Index := 0#32
  ![v503.toNat, 0, 0]
def k0_off10 (k0_t1 : Fin k0_t1_loop.trips) : Fin 2 → Nat :=
  let c0_591 : Index := 0#32
  let c0_i32_266 : BitVec 32 := 0#32
  let c1_i32_267 : BitVec 32 := 1#32
  let arg18 : BitVec 32 := Scf.iv c0_i32_266 c1_i32_267 k0_t1
  let c512_i32_590 : BitVec 32 := 512#32
  let v507 : BitVec 32 := Scalar.muli arg18 c512_i32_590
  let v508 : Index := Scalar.indexCast v507
  ![0, v508.toNat]
def k0_cond1 (k0_t1 : Fin k0_t1_loop.trips) : BitVec 1 :=
  let c0_i32_266 : BitVec 32 := 0#32
  let c1_i32_267 : BitVec 32 := 1#32
  let arg18 : BitVec 32 := Scf.iv c0_i32_266 c1_i32_267 k0_t1
  let c2_i32_592 : BitVec 32 := 2#32
  let v512 : BitVec 32 := Scalar.addi arg18 c2_i32_592
  let c8_i32_593 : BitVec 32 := 8#32
  let v513 : BitVec 1 := Scalar.cmpi .slt v512 c8_i32_593
  let v514 : BitVec 32 := Scalar.extui v513
  let c0_i32_594 : BitVec 32 := 0#32
  let v515 : BitVec 1 := Scalar.cmpi .ne v514 c0_i32_594
  v515

def k0_off11 (k0_t1 : Fin k0_t1_loop.trips) : Fin 1 → Nat :=
  let c0_i32_266 : BitVec 32 := 0#32
  let c1_i32_267 : BitVec 32 := 1#32
  let arg18 : BitVec 32 := Scf.iv c0_i32_266 c1_i32_267 k0_t1
  let c2_i32_581 : BitVec 32 := 2#32
  let v496 : BitVec 32 := Scalar.remsi arg18 c2_i32_581
  ![v496.toNat]
def k0_off12 (k0_t1 : Fin k0_t1_loop.trips) : Fin 3 → Nat :=
  let c0_i32_266 : BitVec 32 := 0#32
  let c1_i32_267 : BitVec 32 := 1#32
  let arg18 : BitVec 32 := Scf.iv c0_i32_266 c1_i32_267 k0_t1
  let c2_i32_581 : BitVec 32 := 2#32
  let v496 : BitVec 32 := Scalar.remsi arg18 c2_i32_581
  let c0_i32_598 : BitVec 32 := 0#32
  let c0_i32_599 : BitVec 32 := 0#32
  ![v496.toNat, 0, 0]
def k0_off13 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_248 : BitVec 32 := 0#32
  let v238 : BitVec 32 := Scalar.addi v2 c0_i32_248
  let c4_i32_249 : BitVec 32 := 4#32
  let v239 : BitVec 32 := Scalar.remsi v238 c4_i32_249
  let c2048_i32_596 : BitVec 32 := 2048#32
  let v517 : BitVec 32 := Scalar.muli v239 c2048_i32_596
  let c0_i32_266 : BitVec 32 := 0#32
  let c1_i32_267 : BitVec 32 := 1#32
  let arg18 : BitVec 32 := Scf.iv c0_i32_266 c1_i32_267 k0_t1
  let c2_i32_595 : BitVec 32 := 2#32
  let v516 : BitVec 32 := Scalar.addi arg18 c2_i32_595
  let c512_i32_597 : BitVec 32 := 512#32
  let v518 : BitVec 32 := Scalar.muli v516 c512_i32_597
  ![v517.toNat, v518.toNat]
@[reducible] def k0_t2_loop : Scf.Loop 32 :=
  let c0_i32_285 : BitVec 32 := 0#32
  let c8_i32_286 : BitVec 32 := 8#32
  let v273 : BitVec 32 := Scalar.addi c0_i32_285 c8_i32_286
  let c1_i32_287 : BitVec 32 := 1#32
  ⟨c0_i32_285, v273, c1_i32_287⟩
def k0_off14 (k0_t2 : Fin k0_t2_loop.trips) : Fin 1 → Nat :=
  let c0_i32_285 : BitVec 32 := 0#32
  let c1_i32_287 : BitVec 32 := 1#32
  let arg18 : BitVec 32 := Scf.iv c0_i32_285 c1_i32_287 k0_t2
  let c2_i32_581 : BitVec 32 := 2#32
  let v496 : BitVec 32 := Scalar.remsi arg18 c2_i32_581
  ![v496.toNat]
def k0_off15 (k0_t2 : Fin k0_t2_loop.trips) : Fin 3 → Nat :=
  let c0_i32_285 : BitVec 32 := 0#32
  let c1_i32_287 : BitVec 32 := 1#32
  let arg18 : BitVec 32 := Scf.iv c0_i32_285 c1_i32_287 k0_t2
  let c2_i32_581 : BitVec 32 := 2#32
  let v496 : BitVec 32 := Scalar.remsi arg18 c2_i32_581
  let c0_i32_582 : BitVec 32 := 0#32
  let c0_i32_583 : BitVec 32 := 0#32
  ![v496.toNat, 0, 0]
def k0_off16 (k0_t2 : Fin k0_t2_loop.trips) : Fin 3 → Nat :=
  let c0_i32_285 : BitVec 32 := 0#32
  let c1_i32_287 : BitVec 32 := 1#32
  let arg18 : BitVec 32 := Scf.iv c0_i32_285 c1_i32_287 k0_t2
  let c2_i32_581 : BitVec 32 := 2#32
  let v496 : BitVec 32 := Scalar.remsi arg18 c2_i32_581
  let v503 : Index := Scalar.indexCast v496
  let c0_588 : Index := 0#32
  let c0_589 : Index := 0#32
  ![v503.toNat, 0, 0]
def k0_off17 (k0_t2 : Fin k0_t2_loop.trips) : Fin 2 → Nat :=
  let c1024 : Index := 1024#32
  let c0_i32_285 : BitVec 32 := 0#32
  let c1_i32_287 : BitVec 32 := 1#32
  let arg18 : BitVec 32 := Scf.iv c0_i32_285 c1_i32_287 k0_t2
  let c512_i32_590 : BitVec 32 := 512#32
  let v507 : BitVec 32 := Scalar.muli arg18 c512_i32_590
  let v508 : Index := Scalar.indexCast v507
  ![1024, v508.toNat]
def k0_cond2 (k0_t2 : Fin k0_t2_loop.trips) : BitVec 1 :=
  let c0_i32_285 : BitVec 32 := 0#32
  let c1_i32_287 : BitVec 32 := 1#32
  let arg18 : BitVec 32 := Scf.iv c0_i32_285 c1_i32_287 k0_t2
  let c2_i32_591 : BitVec 32 := 2#32
  let v512 : BitVec 32 := Scalar.addi arg18 c2_i32_591
  let c8_i32_592 : BitVec 32 := 8#32
  let v513 : BitVec 1 := Scalar.cmpi .slt v512 c8_i32_592
  let v514 : BitVec 32 := Scalar.extui v513
  let c0_i32_593 : BitVec 32 := 0#32
  let v515 : BitVec 1 := Scalar.cmpi .ne v514 c0_i32_593
  v515

def k0_off18 (k0_t2 : Fin k0_t2_loop.trips) : Fin 1 → Nat :=
  let c0_i32_285 : BitVec 32 := 0#32
  let c1_i32_287 : BitVec 32 := 1#32
  let arg18 : BitVec 32 := Scf.iv c0_i32_285 c1_i32_287 k0_t2
  let c2_i32_581 : BitVec 32 := 2#32
  let v496 : BitVec 32 := Scalar.remsi arg18 c2_i32_581
  ![v496.toNat]
def k0_off19 (k0_t2 : Fin k0_t2_loop.trips) : Fin 3 → Nat :=
  let c0_i32_285 : BitVec 32 := 0#32
  let c1_i32_287 : BitVec 32 := 1#32
  let arg18 : BitVec 32 := Scf.iv c0_i32_285 c1_i32_287 k0_t2
  let c2_i32_581 : BitVec 32 := 2#32
  let v496 : BitVec 32 := Scalar.remsi arg18 c2_i32_581
  let c0_i32_597 : BitVec 32 := 0#32
  let c0_i32_598 : BitVec 32 := 0#32
  ![v496.toNat, 0, 0]
def k0_off20 (d0 : Dev nD) (k0_t2 : Fin k0_t2_loop.trips) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_248 : BitVec 32 := 0#32
  let v238 : BitVec 32 := Scalar.addi v2 c0_i32_248
  let c4_i32_249 : BitVec 32 := 4#32
  let v239 : BitVec 32 := Scalar.remsi v238 c4_i32_249
  let c2048_i32_595 : BitVec 32 := 2048#32
  let v517 : BitVec 32 := Scalar.muli v239 c2048_i32_595
  let c0_i32_285 : BitVec 32 := 0#32
  let c1_i32_287 : BitVec 32 := 1#32
  let arg18 : BitVec 32 := Scf.iv c0_i32_285 c1_i32_287 k0_t2
  let c2_i32_594 : BitVec 32 := 2#32
  let v516 : BitVec 32 := Scalar.addi arg18 c2_i32_594
  let c512_i32_596 : BitVec 32 := 512#32
  let v518 : BitVec 32 := Scalar.muli v516 c512_i32_596
  ![v517.toNat, v518.toNat]
def k0_off21 (d0 : Dev nD) (c3_i32_303 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v288 : BitVec 32 := Scalar.addi v2 c3_i32_303
  let c4_i32_304 : BitVec 32 := 4#32
  let v289 : BitVec 32 := Scalar.remsi v288 c4_i32_304
  let c0_i32_312 : BitVec 32 := 0#32
  let c0_i32_313 : BitVec 32 := 0#32
  ![v289.toNat, 0, 0]
@[reducible] def k0_t3_loop : Scf.Loop 32 :=
  let c0_i32_320 : BitVec 32 := 0#32
  let c8_i32_321 : BitVec 32 := 8#32
  let v302 : BitVec 32 := Scalar.addi c0_i32_320 c8_i32_321
  let c1_i32_322 : BitVec 32 := 1#32
  ⟨c0_i32_320, v302, c1_i32_322⟩
def k0_off22 (k0_t3 : Fin k0_t3_loop.trips) : Fin 1 → Nat :=
  let c0_i32_320 : BitVec 32 := 0#32
  let c1_i32_322 : BitVec 32 := 1#32
  let arg18 : BitVec 32 := Scf.iv c0_i32_320 c1_i32_322 k0_t3
  let c2_i32_581 : BitVec 32 := 2#32
  let v496 : BitVec 32 := Scalar.remsi arg18 c2_i32_581
  ![v496.toNat]
def k0_off23 (k0_t3 : Fin k0_t3_loop.trips) : Fin 3 → Nat :=
  let c0_i32_320 : BitVec 32 := 0#32
  let c1_i32_322 : BitVec 32 := 1#32
  let arg18 : BitVec 32 := Scf.iv c0_i32_320 c1_i32_322 k0_t3
  let c2_i32_581 : BitVec 32 := 2#32
  let v496 : BitVec 32 := Scalar.remsi arg18 c2_i32_581
  let c0_i32_582 : BitVec 32 := 0#32
  let c0_i32_583 : BitVec 32 := 0#32
  ![v496.toNat, 0, 0]
def k0_off24 (k0_t3 : Fin k0_t3_loop.trips) : Fin 3 → Nat :=
  let c0_i32_320 : BitVec 32 := 0#32
  let c1_i32_322 : BitVec 32 := 1#32
  let arg18 : BitVec 32 := Scf.iv c0_i32_320 c1_i32_322 k0_t3
  let c2_i32_581 : BitVec 32 := 2#32
  let v496 : BitVec 32 := Scalar.remsi arg18 c2_i32_581
  let v503 : Index := Scalar.indexCast v496
  let c0_588 : Index := 0#32
  let c0_589 : Index := 0#32
  ![v503.toNat, 0, 0]
def k0_off25 (k0_t3 : Fin k0_t3_loop.trips) : Fin 2 → Nat :=
  let c0_591 : Index := 0#32
  let c0_i32_320 : BitVec 32 := 0#32
  let c1_i32_322 : BitVec 32 := 1#32
  let arg18 : BitVec 32 := Scf.iv c0_i32_320 c1_i32_322 k0_t3
  let c512_i32_590 : BitVec 32 := 512#32
  let v508 : BitVec 32 := Scalar.muli arg18 c512_i32_590
  let v509 : Index := Scalar.indexCast v508
  ![0, v509.toNat]
def k0_cond3 (k0_t3 : Fin k0_t3_loop.trips) : BitVec 1 :=
  let c0_i32_320 : BitVec 32 := 0#32
  let c1_i32_322 : BitVec 32 := 1#32
  let arg18 : BitVec 32 := Scf.iv c0_i32_320 c1_i32_322 k0_t3
  let c2_i32_593 : BitVec 32 := 2#32
  let v516 : BitVec 32 := Scalar.addi arg18 c2_i32_593
  let c8_i32_594 : BitVec 32 := 8#32
  let v517 : BitVec 1 := Scalar.cmpi .slt v516 c8_i32_594
  let v518 : BitVec 32 := Scalar.extui v517
  let c0_i32_595 : BitVec 32 := 0#32
  let v519 : BitVec 1 := Scalar.cmpi .ne v518 c0_i32_595
  v519

def k0_off26 (k0_t3 : Fin k0_t3_loop.trips) : Fin 1 → Nat :=
  let c0_i32_320 : BitVec 32 := 0#32
  let c1_i32_322 : BitVec 32 := 1#32
  let arg18 : BitVec 32 := Scf.iv c0_i32_320 c1_i32_322 k0_t3
  let c2_i32_581 : BitVec 32 := 2#32
  let v496 : BitVec 32 := Scalar.remsi arg18 c2_i32_581
  ![v496.toNat]
def k0_off27 (k0_t3 : Fin k0_t3_loop.trips) : Fin 3 → Nat :=
  let c0_i32_320 : BitVec 32 := 0#32
  let c1_i32_322 : BitVec 32 := 1#32
  let arg18 : BitVec 32 := Scf.iv c0_i32_320 c1_i32_322 k0_t3
  let c2_i32_581 : BitVec 32 := 2#32
  let v496 : BitVec 32 := Scalar.remsi arg18 c2_i32_581
  let c0_i32_599 : BitVec 32 := 0#32
  let c0_i32_600 : BitVec 32 := 0#32
  ![v496.toNat, 0, 0]
def k0_off28 (d0 : Dev nD) (k0_t3 : Fin k0_t3_loop.trips) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_289 : BitVec 32 := 3#32
  let v274 : BitVec 32 := Scalar.addi v2 c3_i32_289
  let c4_i32_290 : BitVec 32 := 4#32
  let v275 : BitVec 32 := Scalar.remsi v274 c4_i32_290
  let c2048_i32_597 : BitVec 32 := 2048#32
  let v521 : BitVec 32 := Scalar.muli v275 c2048_i32_597
  let c0_i32_320 : BitVec 32 := 0#32
  let c1_i32_322 : BitVec 32 := 1#32
  let arg18 : BitVec 32 := Scf.iv c0_i32_320 c1_i32_322 k0_t3
  let c2_i32_596 : BitVec 32 := 2#32
  let v520 : BitVec 32 := Scalar.addi arg18 c2_i32_596
  let c512_i32_598 : BitVec 32 := 512#32
  let v522 : BitVec 32 := Scalar.muli v520 c512_i32_598
  ![v521.toNat, v522.toNat]
def k0_off29 (d0 : Dev nD) (c3_i32_336 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v315 : BitVec 32 := Scalar.addi v2 c3_i32_336
  let c4_i32_337 : BitVec 32 := 4#32
  let v316 : BitVec 32 := Scalar.remsi v315 c4_i32_337
  let c1024_i32_345 : BitVec 32 := 1024#32
  let c0_i32_346 : BitVec 32 := 0#32
  ![v316.toNat, 1024, 0]
@[reducible] def k0_t4_loop : Scf.Loop 32 :=
  let c0_i32_353 : BitVec 32 := 0#32
  let c8_i32_354 : BitVec 32 := 8#32
  let v329 : BitVec 32 := Scalar.addi c0_i32_353 c8_i32_354
  let c1_i32_355 : BitVec 32 := 1#32
  ⟨c0_i32_353, v329, c1_i32_355⟩
def k0_off30 (k0_t4 : Fin k0_t4_loop.trips) : Fin 1 → Nat :=
  let c0_i32_353 : BitVec 32 := 0#32
  let c1_i32_355 : BitVec 32 := 1#32
  let arg18 : BitVec 32 := Scf.iv c0_i32_353 c1_i32_355 k0_t4
  let c2_i32_581 : BitVec 32 := 2#32
  let v496 : BitVec 32 := Scalar.remsi arg18 c2_i32_581
  ![v496.toNat]
def k0_off31 (k0_t4 : Fin k0_t4_loop.trips) : Fin 3 → Nat :=
  let c0_i32_353 : BitVec 32 := 0#32
  let c1_i32_355 : BitVec 32 := 1#32
  let arg18 : BitVec 32 := Scf.iv c0_i32_353 c1_i32_355 k0_t4
  let c2_i32_581 : BitVec 32 := 2#32
  let v496 : BitVec 32 := Scalar.remsi arg18 c2_i32_581
  let c0_i32_582 : BitVec 32 := 0#32
  let c0_i32_583 : BitVec 32 := 0#32
  ![v496.toNat, 0, 0]
def k0_off32 (k0_t4 : Fin k0_t4_loop.trips) : Fin 3 → Nat :=
  let c0_i32_353 : BitVec 32 := 0#32
  let c1_i32_355 : BitVec 32 := 1#32
  let arg18 : BitVec 32 := Scf.iv c0_i32_353 c1_i32_355 k0_t4
  let c2_i32_581 : BitVec 32 := 2#32
  let v496 : BitVec 32 := Scalar.remsi arg18 c2_i32_581
  let v503 : Index := Scalar.indexCast v496
  let c0_588 : Index := 0#32
  let c0_589 : Index := 0#32
  ![v503.toNat, 0, 0]
def k0_off33 (k0_t4 : Fin k0_t4_loop.trips) : Fin 2 → Nat :=
  let c1024 : Index := 1024#32
  let c0_i32_353 : BitVec 32 := 0#32
  let c1_i32_355 : BitVec 32 := 1#32
  let arg18 : BitVec 32 := Scf.iv c0_i32_353 c1_i32_355 k0_t4
  let c512_i32_590 : BitVec 32 := 512#32
  let v508 : BitVec 32 := Scalar.muli arg18 c512_i32_590
  let v509 : Index := Scalar.indexCast v508
  ![1024, v509.toNat]
def k0_cond4 (k0_t4 : Fin k0_t4_loop.trips) : BitVec 1 :=
  let c0_i32_353 : BitVec 32 := 0#32
  let c1_i32_355 : BitVec 32 := 1#32
  let arg18 : BitVec 32 := Scf.iv c0_i32_353 c1_i32_355 k0_t4
  let c2_i32_592 : BitVec 32 := 2#32
  let v516 : BitVec 32 := Scalar.addi arg18 c2_i32_592
  let c8_i32_593 : BitVec 32 := 8#32
  let v517 : BitVec 1 := Scalar.cmpi .slt v516 c8_i32_593
  let v518 : BitVec 32 := Scalar.extui v517
  let c0_i32_594 : BitVec 32 := 0#32
  let v519 : BitVec 1 := Scalar.cmpi .ne v518 c0_i32_594
  v519

def k0_off34 (k0_t4 : Fin k0_t4_loop.trips) : Fin 1 → Nat :=
  let c0_i32_353 : BitVec 32 := 0#32
  let c1_i32_355 : BitVec 32 := 1#32
  let arg18 : BitVec 32 := Scf.iv c0_i32_353 c1_i32_355 k0_t4
  let c2_i32_581 : BitVec 32 := 2#32
  let v496 : BitVec 32 := Scalar.remsi arg18 c2_i32_581
  ![v496.toNat]
def k0_off35 (k0_t4 : Fin k0_t4_loop.trips) : Fin 3 → Nat :=
  let c0_i32_353 : BitVec 32 := 0#32
  let c1_i32_355 : BitVec 32 := 1#32
  let arg18 : BitVec 32 := Scf.iv c0_i32_353 c1_i32_355 k0_t4
  let c2_i32_581 : BitVec 32 := 2#32
  let v496 : BitVec 32 := Scalar.remsi arg18 c2_i32_581
  let c0_i32_598 : BitVec 32 := 0#32
  let c0_i32_599 : BitVec 32 := 0#32
  ![v496.toNat, 0, 0]
def k0_off36 (d0 : Dev nD) (k0_t4 : Fin k0_t4_loop.trips) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_289 : BitVec 32 := 3#32
  let v274 : BitVec 32 := Scalar.addi v2 c3_i32_289
  let c4_i32_290 : BitVec 32 := 4#32
  let v275 : BitVec 32 := Scalar.remsi v274 c4_i32_290
  let c2048_i32_596 : BitVec 32 := 2048#32
  let v521 : BitVec 32 := Scalar.muli v275 c2048_i32_596
  let c0_i32_353 : BitVec 32 := 0#32
  let c1_i32_355 : BitVec 32 := 1#32
  let arg18 : BitVec 32 := Scf.iv c0_i32_353 c1_i32_355 k0_t4
  let c2_i32_595 : BitVec 32 := 2#32
  let v520 : BitVec 32 := Scalar.addi arg18 c2_i32_595
  let c512_i32_597 : BitVec 32 := 512#32
  let v522 : BitVec 32 := Scalar.muli v520 c512_i32_597
  ![v521.toNat, v522.toNat]
@[reducible] def k0_t5_loop : Scf.Loop 32 :=
  let c0_i32_388 : BitVec 32 := 0#32
  let c8_i32_389 : BitVec 32 := 8#32
  let v358 : BitVec 32 := Scalar.addi c0_i32_388 c8_i32_389
  let c1_i32_390 : BitVec 32 := 1#32
  ⟨c0_i32_388, v358, c1_i32_390⟩
def k0_off37 (k0_t5 : Fin k0_t5_loop.trips) : Fin 1 → Nat :=
  let c0_i32_388 : BitVec 32 := 0#32
  let c1_i32_390 : BitVec 32 := 1#32
  let arg18 : BitVec 32 := Scf.iv c0_i32_388 c1_i32_390 k0_t5
  let c2_i32_581 : BitVec 32 := 2#32
  let v496 : BitVec 32 := Scalar.remsi arg18 c2_i32_581
  ![v496.toNat]
def k0_off38 (k0_t5 : Fin k0_t5_loop.trips) : Fin 3 → Nat :=
  let c0_i32_388 : BitVec 32 := 0#32
  let c1_i32_390 : BitVec 32 := 1#32
  let arg18 : BitVec 32 := Scf.iv c0_i32_388 c1_i32_390 k0_t5
  let c2_i32_581 : BitVec 32 := 2#32
  let v496 : BitVec 32 := Scalar.remsi arg18 c2_i32_581
  let c0_i32_582 : BitVec 32 := 0#32
  let c0_i32_583 : BitVec 32 := 0#32
  ![v496.toNat, 0, 0]
def k0_off39 (k0_t5 : Fin k0_t5_loop.trips) : Fin 3 → Nat :=
  let c0_i32_388 : BitVec 32 := 0#32
  let c1_i32_390 : BitVec 32 := 1#32
  let arg18 : BitVec 32 := Scf.iv c0_i32_388 c1_i32_390 k0_t5
  let c2_i32_581 : BitVec 32 := 2#32
  let v496 : BitVec 32 := Scalar.remsi arg18 c2_i32_581
  let v503 : Index := Scalar.indexCast v496
  let c0_588 : Index := 0#32
  let c0_589 : Index := 0#32
  ![v503.toNat, 0, 0]
def k0_off40 (k0_t5 : Fin k0_t5_loop.trips) : Fin 2 → Nat :=
  let c0_591 : Index := 0#32
  let c0_i32_388 : BitVec 32 := 0#32
  let c1_i32_390 : BitVec 32 := 1#32
  let arg18 : BitVec 32 := Scf.iv c0_i32_388 c1_i32_390 k0_t5
  let c512_i32_590 : BitVec 32 := 512#32
  let v508 : BitVec 32 := Scalar.muli arg18 c512_i32_590
  let v509 : Index := Scalar.indexCast v508
  ![0, v509.toNat]
def k0_cond5 (k0_t5 : Fin k0_t5_loop.trips) : BitVec 1 :=
  let c0_i32_388 : BitVec 32 := 0#32
  let c1_i32_390 : BitVec 32 := 1#32
  let arg18 : BitVec 32 := Scf.iv c0_i32_388 c1_i32_390 k0_t5
  let c2_i32_593 : BitVec 32 := 2#32
  let v516 : BitVec 32 := Scalar.addi arg18 c2_i32_593
  let c8_i32_594 : BitVec 32 := 8#32
  let v517 : BitVec 1 := Scalar.cmpi .slt v516 c8_i32_594
  let v518 : BitVec 32 := Scalar.extui v517
  let c0_i32_595 : BitVec 32 := 0#32
  let v519 : BitVec 1 := Scalar.cmpi .ne v518 c0_i32_595
  v519

def k0_off41 (k0_t5 : Fin k0_t5_loop.trips) : Fin 1 → Nat :=
  let c0_i32_388 : BitVec 32 := 0#32
  let c1_i32_390 : BitVec 32 := 1#32
  let arg18 : BitVec 32 := Scf.iv c0_i32_388 c1_i32_390 k0_t5
  let c2_i32_581 : BitVec 32 := 2#32
  let v496 : BitVec 32 := Scalar.remsi arg18 c2_i32_581
  ![v496.toNat]
def k0_off42 (k0_t5 : Fin k0_t5_loop.trips) : Fin 3 → Nat :=
  let c0_i32_388 : BitVec 32 := 0#32
  let c1_i32_390 : BitVec 32 := 1#32
  let arg18 : BitVec 32 := Scf.iv c0_i32_388 c1_i32_390 k0_t5
  let c2_i32_581 : BitVec 32 := 2#32
  let v496 : BitVec 32 := Scalar.remsi arg18 c2_i32_581
  let c0_i32_599 : BitVec 32 := 0#32
  let c0_i32_600 : BitVec 32 := 0#32
  ![v496.toNat, 0, 0]
def k0_off43 (d0 : Dev nD) (k0_t5 : Fin k0_t5_loop.trips) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_357 : BitVec 32 := 1#32
  let v330 : BitVec 32 := Scalar.addi v2 c1_i32_357
  let c4_i32_358 : BitVec 32 := 4#32
  let v331 : BitVec 32 := Scalar.remsi v330 c4_i32_358
  let c2048_i32_597 : BitVec 32 := 2048#32
  let v521 : BitVec 32 := Scalar.muli v331 c2048_i32_597
  let c0_i32_388 : BitVec 32 := 0#32
  let c1_i32_390 : BitVec 32 := 1#32
  let arg18 : BitVec 32 := Scf.iv c0_i32_388 c1_i32_390 k0_t5
  let c2_i32_596 : BitVec 32 := 2#32
  let v520 : BitVec 32 := Scalar.addi arg18 c2_i32_596
  let c512_i32_598 : BitVec 32 := 512#32
  let v522 : BitVec 32 := Scalar.muli v520 c512_i32_598
  ![v521.toNat, v522.toNat]
@[reducible] def k0_t6_loop : Scf.Loop 32 :=
  let c0_i32_421 : BitVec 32 := 0#32
  let c8_i32_422 : BitVec 32 := 8#32
  let v385 : BitVec 32 := Scalar.addi c0_i32_421 c8_i32_422
  let c1_i32_423 : BitVec 32 := 1#32
  ⟨c0_i32_421, v385, c1_i32_423⟩
def k0_off44 (k0_t6 : Fin k0_t6_loop.trips) : Fin 1 → Nat :=
  let c0_i32_421 : BitVec 32 := 0#32
  let c1_i32_423 : BitVec 32 := 1#32
  let arg18 : BitVec 32 := Scf.iv c0_i32_421 c1_i32_423 k0_t6
  let c2_i32_581 : BitVec 32 := 2#32
  let v496 : BitVec 32 := Scalar.remsi arg18 c2_i32_581
  ![v496.toNat]
def k0_off45 (k0_t6 : Fin k0_t6_loop.trips) : Fin 3 → Nat :=
  let c0_i32_421 : BitVec 32 := 0#32
  let c1_i32_423 : BitVec 32 := 1#32
  let arg18 : BitVec 32 := Scf.iv c0_i32_421 c1_i32_423 k0_t6
  let c2_i32_581 : BitVec 32 := 2#32
  let v496 : BitVec 32 := Scalar.remsi arg18 c2_i32_581
  let c0_i32_582 : BitVec 32 := 0#32
  let c0_i32_583 : BitVec 32 := 0#32
  ![v496.toNat, 0, 0]
def k0_off46 (k0_t6 : Fin k0_t6_loop.trips) : Fin 3 → Nat :=
  let c0_i32_421 : BitVec 32 := 0#32
  let c1_i32_423 : BitVec 32 := 1#32
  let arg18 : BitVec 32 := Scf.iv c0_i32_421 c1_i32_423 k0_t6
  let c2_i32_581 : BitVec 32 := 2#32
  let v496 : BitVec 32 := Scalar.remsi arg18 c2_i32_581
  let v503 : Index := Scalar.indexCast v496
  let c0_588 : Index := 0#32
  let c0_589 : Index := 0#32
  ![v503.toNat, 0, 0]
def k0_off47 (k0_t6 : Fin k0_t6_loop.trips) : Fin 2 → Nat :=
  let c1024 : Index := 1024#32
  let c0_i32_421 : BitVec 32 := 0#32
  let c1_i32_423 : BitVec 32 := 1#32
  let arg18 : BitVec 32 := Scf.iv c0_i32_421 c1_i32_423 k0_t6
  let c512_i32_590 : BitVec 32 := 512#32
  let v508 : BitVec 32 := Scalar.muli arg18 c512_i32_590
  let v509 : Index := Scalar.indexCast v508
  ![1024, v509.toNat]
def k0_cond6 (k0_t6 : Fin k0_t6_loop.trips) : BitVec 1 :=
  let c0_i32_421 : BitVec 32 := 0#32
  let c1_i32_423 : BitVec 32 := 1#32
  let arg18 : BitVec 32 := Scf.iv c0_i32_421 c1_i32_423 k0_t6
  let c2_i32_592 : BitVec 32 := 2#32
  let v516 : BitVec 32 := Scalar.addi arg18 c2_i32_592
  let c8_i32_593 : BitVec 32 := 8#32
  let v517 : BitVec 1 := Scalar.cmpi .slt v516 c8_i32_593
  let v518 : BitVec 32 := Scalar.extui v517
  let c0_i32_594 : BitVec 32 := 0#32
  let v519 : BitVec 1 := Scalar.cmpi .ne v518 c0_i32_594
  v519

def k0_off48 (k0_t6 : Fin k0_t6_loop.trips) : Fin 1 → Nat :=
  let c0_i32_421 : BitVec 32 := 0#32
  let c1_i32_423 : BitVec 32 := 1#32
  let arg18 : BitVec 32 := Scf.iv c0_i32_421 c1_i32_423 k0_t6
  let c2_i32_581 : BitVec 32 := 2#32
  let v496 : BitVec 32 := Scalar.remsi arg18 c2_i32_581
  ![v496.toNat]
def k0_off49 (k0_t6 : Fin k0_t6_loop.trips) : Fin 3 → Nat :=
  let c0_i32_421 : BitVec 32 := 0#32
  let c1_i32_423 : BitVec 32 := 1#32
  let arg18 : BitVec 32 := Scf.iv c0_i32_421 c1_i32_423 k0_t6
  let c2_i32_581 : BitVec 32 := 2#32
  let v496 : BitVec 32 := Scalar.remsi arg18 c2_i32_581
  let c0_i32_598 : BitVec 32 := 0#32
  let c0_i32_599 : BitVec 32 := 0#32
  ![v496.toNat, 0, 0]
def k0_off50 (d0 : Dev nD) (k0_t6 : Fin k0_t6_loop.trips) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_357 : BitVec 32 := 1#32
  let v330 : BitVec 32 := Scalar.addi v2 c1_i32_357
  let c4_i32_358 : BitVec 32 := 4#32
  let v331 : BitVec 32 := Scalar.remsi v330 c4_i32_358
  let c2048_i32_596 : BitVec 32 := 2048#32
  let v521 : BitVec 32 := Scalar.muli v331 c2048_i32_596
  let c0_i32_421 : BitVec 32 := 0#32
  let c1_i32_423 : BitVec 32 := 1#32
  let arg18 : BitVec 32 := Scf.iv c0_i32_421 c1_i32_423 k0_t6
  let c2_i32_595 : BitVec 32 := 2#32
  let v520 : BitVec 32 := Scalar.addi arg18 c2_i32_595
  let c512_i32_597 : BitVec 32 := 512#32
  let v522 : BitVec 32 := Scalar.muli v520 c512_i32_597
  ![v521.toNat, v522.toNat]
@[reducible] def k0_t7_loop : Scf.Loop 32 :=
  let c0_i32_456 : BitVec 32 := 0#32
  let c8_i32_457 : BitVec 32 := 8#32
  let v414 : BitVec 32 := Scalar.addi c0_i32_456 c8_i32_457
  let c1_i32_458 : BitVec 32 := 1#32
  ⟨c0_i32_456, v414, c1_i32_458⟩
def k0_off51 (k0_t7 : Fin k0_t7_loop.trips) : Fin 1 → Nat :=
  let c0_i32_456 : BitVec 32 := 0#32
  let c1_i32_458 : BitVec 32 := 1#32
  let arg18 : BitVec 32 := Scf.iv c0_i32_456 c1_i32_458 k0_t7
  let c2_i32_581 : BitVec 32 := 2#32
  let v496 : BitVec 32 := Scalar.remsi arg18 c2_i32_581
  ![v496.toNat]
def k0_off52 (k0_t7 : Fin k0_t7_loop.trips) : Fin 3 → Nat :=
  let c0_i32_456 : BitVec 32 := 0#32
  let c1_i32_458 : BitVec 32 := 1#32
  let arg18 : BitVec 32 := Scf.iv c0_i32_456 c1_i32_458 k0_t7
  let c2_i32_581 : BitVec 32 := 2#32
  let v496 : BitVec 32 := Scalar.remsi arg18 c2_i32_581
  let c0_i32_582 : BitVec 32 := 0#32
  let c0_i32_583 : BitVec 32 := 0#32
  ![v496.toNat, 0, 0]
def k0_off53 (k0_t7 : Fin k0_t7_loop.trips) : Fin 3 → Nat :=
  let c0_i32_456 : BitVec 32 := 0#32
  let c1_i32_458 : BitVec 32 := 1#32
  let arg18 : BitVec 32 := Scf.iv c0_i32_456 c1_i32_458 k0_t7
  let c2_i32_581 : BitVec 32 := 2#32
  let v496 : BitVec 32 := Scalar.remsi arg18 c2_i32_581
  let v503 : Index := Scalar.indexCast v496
  let c0_588 : Index := 0#32
  let c0_589 : Index := 0#32
  ![v503.toNat, 0, 0]
def k0_off54 (k0_t7 : Fin k0_t7_loop.trips) : Fin 2 → Nat :=
  let c0_591 : Index := 0#32
  let c0_i32_456 : BitVec 32 := 0#32
  let c1_i32_458 : BitVec 32 := 1#32
  let arg18 : BitVec 32 := Scf.iv c0_i32_456 c1_i32_458 k0_t7
  let c512_i32_590 : BitVec 32 := 512#32
  let v508 : BitVec 32 := Scalar.muli arg18 c512_i32_590
  let v509 : Index := Scalar.indexCast v508
  ![0, v509.toNat]
def k0_cond7 (k0_t7 : Fin k0_t7_loop.trips) : BitVec 1 :=
  let c0_i32_456 : BitVec 32 := 0#32
  let c1_i32_458 : BitVec 32 := 1#32
  let arg18 : BitVec 32 := Scf.iv c0_i32_456 c1_i32_458 k0_t7
  let c2_i32_593 : BitVec 32 := 2#32
  let v516 : BitVec 32 := Scalar.addi arg18 c2_i32_593
  let c8_i32_594 : BitVec 32 := 8#32
  let v517 : BitVec 1 := Scalar.cmpi .slt v516 c8_i32_594
  let v518 : BitVec 32 := Scalar.extui v517
  let c0_i32_595 : BitVec 32 := 0#32
  let v519 : BitVec 1 := Scalar.cmpi .ne v518 c0_i32_595
  v519

def k0_off55 (k0_t7 : Fin k0_t7_loop.trips) : Fin 1 → Nat :=
  let c0_i32_456 : BitVec 32 := 0#32
  let c1_i32_458 : BitVec 32 := 1#32
  let arg18 : BitVec 32 := Scf.iv c0_i32_456 c1_i32_458 k0_t7
  let c2_i32_581 : BitVec 32 := 2#32
  let v496 : BitVec 32 := Scalar.remsi arg18 c2_i32_581
  ![v496.toNat]
def k0_off56 (k0_t7 : Fin k0_t7_loop.trips) : Fin 3 → Nat :=
  let c0_i32_456 : BitVec 32 := 0#32
  let c1_i32_458 : BitVec 32 := 1#32
  let arg18 : BitVec 32 := Scf.iv c0_i32_456 c1_i32_458 k0_t7
  let c2_i32_581 : BitVec 32 := 2#32
  let v496 : BitVec 32 := Scalar.remsi arg18 c2_i32_581
  let c0_i32_599 : BitVec 32 := 0#32
  let c0_i32_600 : BitVec 32 := 0#32
  ![v496.toNat, 0, 0]
def k0_off57 (d0 : Dev nD) (k0_t7 : Fin k0_t7_loop.trips) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_425 : BitVec 32 := 2#32
  let v386 : BitVec 32 := Scalar.addi v2 c2_i32_425
  let c4_i32_426 : BitVec 32 := 4#32
  let v387 : BitVec 32 := Scalar.remsi v386 c4_i32_426
  let c2048_i32_597 : BitVec 32 := 2048#32
  let v521 : BitVec 32 := Scalar.muli v387 c2048_i32_597
  let c0_i32_456 : BitVec 32 := 0#32
  let c1_i32_458 : BitVec 32 := 1#32
  let arg18 : BitVec 32 := Scf.iv c0_i32_456 c1_i32_458 k0_t7
  let c2_i32_596 : BitVec 32 := 2#32
  let v520 : BitVec 32 := Scalar.addi arg18 c2_i32_596
  let c512_i32_598 : BitVec 32 := 512#32
  let v522 : BitVec 32 := Scalar.muli v520 c512_i32_598
  ![v521.toNat, v522.toNat]
@[reducible] def k0_t8_loop : Scf.Loop 32 :=
  let c0_i32_460 : BitVec 32 := 0#32
  let c8_i32_461 : BitVec 32 := 8#32
  let v415 : BitVec 32 := Scalar.addi c0_i32_460 c8_i32_461
  let c1_i32_462 : BitVec 32 := 1#32
  ⟨c0_i32_460, v415, c1_i32_462⟩
def k0_off58 (k0_t8 : Fin k0_t8_loop.trips) : Fin 2 → Nat :=
  let c0_582 : Index := 0#32
  let c0_i32_460 : BitVec 32 := 0#32
  let c1_i32_462 : BitVec 32 := 1#32
  let arg18 : BitVec 32 := Scf.iv c0_i32_460 c1_i32_462 k0_t8
  let c512_i32_581 : BitVec 32 := 512#32
  let v496 : BitVec 32 := Scalar.muli arg18 c512_i32_581
  let v497 : Index := Scalar.indexCast v496
  ![0, v497.toNat]
@[reducible] def k0_t9_loop : Scf.Loop 32 :=
  let c0_i32_498 : BitVec 32 := 0#32
  let c8_i32_499 : BitVec 32 := 8#32
  let v446 : BitVec 32 := Scalar.addi c0_i32_498 c8_i32_499
  let c1_i32_500 : BitVec 32 := 1#32
  ⟨c0_i32_498, v446, c1_i32_500⟩
def k0_off59 (k0_t9 : Fin k0_t9_loop.trips) : Fin 1 → Nat :=
  let c0_i32_498 : BitVec 32 := 0#32
  let c1_i32_500 : BitVec 32 := 1#32
  let arg18 : BitVec 32 := Scf.iv c0_i32_498 c1_i32_500 k0_t9
  let c2_i32_581 : BitVec 32 := 2#32
  let v496 : BitVec 32 := Scalar.remsi arg18 c2_i32_581
  ![v496.toNat]
def k0_off60 (k0_t9 : Fin k0_t9_loop.trips) : Fin 3 → Nat :=
  let c0_i32_498 : BitVec 32 := 0#32
  let c1_i32_500 : BitVec 32 := 1#32
  let arg18 : BitVec 32 := Scf.iv c0_i32_498 c1_i32_500 k0_t9
  let c2_i32_581 : BitVec 32 := 2#32
  let v496 : BitVec 32 := Scalar.remsi arg18 c2_i32_581
  let c0_i32_582 : BitVec 32 := 0#32
  let c0_i32_583 : BitVec 32 := 0#32
  ![v496.toNat, 0, 0]
def k0_off61 (k0_t9 : Fin k0_t9_loop.trips) : Fin 3 → Nat :=
  let c0_i32_498 : BitVec 32 := 0#32
  let c1_i32_500 : BitVec 32 := 1#32
  let arg18 : BitVec 32 := Scf.iv c0_i32_498 c1_i32_500 k0_t9
  let c2_i32_581 : BitVec 32 := 2#32
  let v496 : BitVec 32 := Scalar.remsi arg18 c2_i32_581
  let v503 : Index := Scalar.indexCast v496
  let c0_588 : Index := 0#32
  let c0_589 : Index := 0#32
  ![v503.toNat, 0, 0]
def k0_off62 (k0_t9 : Fin k0_t9_loop.trips) : Fin 2 → Nat :=
  let c1024 : Index := 1024#32
  let c0_i32_498 : BitVec 32 := 0#32
  let c1_i32_500 : BitVec 32 := 1#32
  let arg18 : BitVec 32 := Scf.iv c0_i32_498 c1_i32_500 k0_t9
  let c512_i32_590 : BitVec 32 := 512#32
  let v508 : BitVec 32 := Scalar.muli arg18 c512_i32_590
  let v509 : Index := Scalar.indexCast v508
  ![1024, v509.toNat]
def k0_cond8 (k0_t9 : Fin k0_t9_loop.trips) : BitVec 1 :=
  let c0_i32_498 : BitVec 32 := 0#32
  let c1_i32_500 : BitVec 32 := 1#32
  let arg18 : BitVec 32 := Scf.iv c0_i32_498 c1_i32_500 k0_t9
  let c2_i32_592 : BitVec 32 := 2#32
  let v516 : BitVec 32 := Scalar.addi arg18 c2_i32_592
  let c8_i32_593 : BitVec 32 := 8#32
  let v517 : BitVec 1 := Scalar.cmpi .slt v516 c8_i32_593
  let v518 : BitVec 32 := Scalar.extui v517
  let c0_i32_594 : BitVec 32 := 0#32
  let v519 : BitVec 1 := Scalar.cmpi .ne v518 c0_i32_594
  v519

def k0_off63 (k0_t9 : Fin k0_t9_loop.trips) : Fin 1 → Nat :=
  let c0_i32_498 : BitVec 32 := 0#32
  let c1_i32_500 : BitVec 32 := 1#32
  let arg18 : BitVec 32 := Scf.iv c0_i32_498 c1_i32_500 k0_t9
  let c2_i32_581 : BitVec 32 := 2#32
  let v496 : BitVec 32 := Scalar.remsi arg18 c2_i32_581
  ![v496.toNat]
def k0_off64 (k0_t9 : Fin k0_t9_loop.trips) : Fin 3 → Nat :=
  let c0_i32_498 : BitVec 32 := 0#32
  let c1_i32_500 : BitVec 32 := 1#32
  let arg18 : BitVec 32 := Scf.iv c0_i32_498 c1_i32_500 k0_t9
  let c2_i32_581 : BitVec 32 := 2#32
  let v496 : BitVec 32 := Scalar.remsi arg18 c2_i32_581
  let c0_i32_598 : BitVec 32 := 0#32
  let c0_i32_599 : BitVec 32 := 0#32
  ![v496.toNat, 0, 0]
def k0_off65 (d0 : Dev nD) (k0_t9 : Fin k0_t9_loop.trips) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_425 : BitVec 32 := 2#32
  let v386 : BitVec 32 := Scalar.addi v2 c2_i32_425
  let c4_i32_426 : BitVec 32 := 4#32
  let v387 : BitVec 32 := Scalar.remsi v386 c4_i32_426
  let c2048_i32_596 : BitVec 32 := 2048#32
  let v521 : BitVec 32 := Scalar.muli v387 c2048_i32_596
  let c0_i32_498 : BitVec 32 := 0#32
  let c1_i32_500 : BitVec 32 := 1#32
  let arg18 : BitVec 32 := Scf.iv c0_i32_498 c1_i32_500 k0_t9
  let c2_i32_595 : BitVec 32 := 2#32
  let v520 : BitVec 32 := Scalar.addi arg18 c2_i32_595
  let c512_i32_597 : BitVec 32 := 512#32
  let v522 : BitVec 32 := Scalar.muli v520 c512_i32_597
  ![v521.toNat, v522.toNat]
@[reducible] def k0_t10_loop : Scf.Loop 32 :=
  let c0_i32_502 : BitVec 32 := 0#32
  let c8_i32_503 : BitVec 32 := 8#32
  let v447 : BitVec 32 := Scalar.addi c0_i32_502 c8_i32_503
  let c1_i32_504 : BitVec 32 := 1#32
  ⟨c0_i32_502, v447, c1_i32_504⟩
def k0_off66 (k0_t10 : Fin k0_t10_loop.trips) : Fin 2 → Nat :=
  let c1024 : Index := 1024#32
  let c0_i32_502 : BitVec 32 := 0#32
  let c1_i32_504 : BitVec 32 := 1#32
  let arg18 : BitVec 32 := Scf.iv c0_i32_502 c1_i32_504 k0_t10
  let c512_i32_581 : BitVec 32 := 512#32
  let v496 : BitVec 32 := Scalar.muli arg18 c512_i32_581
  let v497 : Index := Scalar.indexCast v496
  ![1024, v497.toNat]
-- ==== ReferenceIdeal.lean ====
abbrev S8192x8192 : Shape := ⟨2, ![8192, 8192]⟩
abbrev S8192x4096 : Shape := ⟨2, ![8192, 4096]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x4096, .f32⟩
  | .hbm, ⟨2, _⟩ => ⟨S8192x4096, .f32⟩
  | .hbm, ⟨3, _⟩ => ⟨S8192x4096, .f32⟩
  | .hbm, ⟨4, _⟩ => ⟨S8192x4096, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S8192x4096, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== ClippedIdeal.lean ====
abbrev S8192x8192 : Shape := ⟨2, ![8192, 8192]⟩
abbrev S8192x4096 : Shape := ⟨2, ![8192, 4096]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x4096, .f32⟩
  | .hbm, ⟨2, _⟩ => ⟨S8192x4096, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S_, .f32⟩
  | .hbm, ⟨9, _⟩ => ⟨S8192x4096, .f32⟩
  | .hbm, ⟨10, _⟩ => ⟨S8192x4096, .f32⟩
  | .hbm, ⟨11, _⟩ => ⟨S8192x4096, .f32⟩
  | .hbm, ⟨12, _⟩ => ⟨S8192x4096, .f32⟩
  | .hbm, ⟨13, _⟩ => ⟨S_, .f32⟩
  | .hbm, ⟨14, _⟩ => ⟨S8192x4096, .f32⟩
  | .hbm, ⟨15, _⟩ => ⟨S8192x4096, .f32⟩
  | .hbm, ⟨16, _⟩ => ⟨S8192x4096, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩

abbrev nD : Nat := 1
abbrev τ : Topo := Topo.v7x

variable {F : FTy → Type} [FloatOps F]
-- ==== Proof.Segs.lean ====
/-
The kernel's body as a short sequence of named steps: a quarter staged, a half sent, a tile started, a trip of a
product loop, and so on, each a small program over explicit buffers.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.A2A

open Cert.KernelIdeal Cert.KernelIdeal.Gen
open Idealize.ShloMosaic
open Idealize.ShloMosaic.TcCoe
open Idealize.SL.Sem

variable {F : FTy → Type} [FloatOps F]

/-! ## The buffers -/

abbrev xM : Memref sig .tc .hbm S8192x2048 .f32 := Memref.whole main_arg0
abbrev wM : Memref sig .tc .hbm S8192x4096 .f32 := Memref.whole main_arg1
abbrev oM : Memref sig .tc .hbm S2048x4096 .f32 := Memref.whole main_v1_0
abbrev gM : Memref sig .tc .hbm S4x2048x2048 .bf16 := Memref.whole main_v1_1
abbrev sM : Memref sig .tc .hbm S3x2048x2048 .bf16 := Memref.whole main_v1_2
abbrev cfM : Memref sig .tc .vmem S512x2048 .f32 := Memref.whole cc0_scratch0
abbrev cbM : Memref sig .tc .vmem S512x2048 .bf16 := Memref.whole cc0_scratch1
abbrev xfM : Memref sig .tc .vmem S1024x2048 .f32 := Memref.whole cc0_scratch2
abbrev xbM : Memref sig .tc .vmem S1024x2048 .bf16 := Memref.whole cc0_scratch3
abbrev wbM : Memref sig .tc .vmem S2x2048x512 .f32 := Memref.whole cc0_scratch4
abbrev aM : Memref sig .tc .vmem S2048x4096 .f32 := Memref.whole cc0_scratch5

/-! ## Their parts -/

/-- A quarter (512 rows) of one device's rows of `x`. -/
abbrev xQ (o : Fin 2 → Nat) (h : ∀ a, o a + S512x2048.size a ≤ S8192x2048.size a) : Memref sig .tc .hbm S512x2048 .f32 :=
  xM.slice (Rect.unit (s := S8192x2048) o S512x2048.size h) (fun _ => rfl)
/-- A half (1024 rows) of one device's rows of `x`. -/
abbrev xH (o : Fin 2 → Nat) (h : ∀ a, o a + S1024x2048.size a ≤ S8192x2048.size a) : Memref sig .tc .hbm S1024x2048 .f32 :=
  xM.slice (Rect.unit (s := S8192x2048) o S1024x2048.size h) (fun _ => rfl)
/-- A tile of the weights. -/
abbrev wT (o : Fin 2 → Nat) (h : ∀ a, o a + S2048x512.size a ≤ S8192x4096.size a) : Memref sig .tc .hbm S2048x512 .f32 :=
  wM.slice (Rect.unit (s := S8192x4096) o S2048x512.size h) (fun _ => rfl)
/-- A slot of the tile buffer. -/
abbrev slot (o : Fin 3 → Nat) (h : ∀ a, o a + S1x2048x512.size a ≤ S2x2048x512.size a) : Memref sig .tc .vmem S2048x512 .f32 :=
  (wbM.slice (Rect.unit (s := S2x2048x512) o S1x2048x512.size h) (fun _ => rfl)).squeeze S2048x512 squeezes_S1x2048x512_S2048x512
/-- A quarter of the staging buffer. -/
abbrev sQ (o : Fin 3 → Nat) (h : ∀ a, o a + S1x512x2048.size a ≤ S3x2048x2048.size a) : Memref sig .tc .hbm S512x2048 .bf16 :=
  (sM.slice (Rect.unit (s := S3x2048x2048) o S1x512x2048.size h) (fun _ => rfl)).squeeze S512x2048 squeezes_S1x512x2048_S512x2048
/-- A half of a slot of the staging buffer. -/
abbrev sH (o : Fin 3 → Nat) (h : ∀ a, o a + S1x1024x2048.size a ≤ S3x2048x2048.size a) : Memref sig .tc .hbm S1024x2048 .bf16 :=
  (sM.slice (Rect.unit (s := S3x2048x2048) o S1x1024x2048.size h) (fun _ => rfl)).squeeze S1024x2048 squeezes_S1x1024x2048_S1024x2048
/-- A half of a slot of the gather buffer. -/
abbrev gH (o : Fin 3 → Nat) (h : ∀ a, o a + S1x1024x2048.size a ≤ S4x2048x2048.size a) : Memref sig .tc .hbm S1024x2048 .bf16 :=
  (gM.slice (Rect.unit (s := S4x2048x2048) o S1x1024x2048.size h) (fun _ => rfl)).squeeze S1024x2048 squeezes_S1x1024x2048_S1024x2048
/-- A half of the accumulator, and of the result. -/
abbrev aH (o : Fin 2 → Nat) (h : ∀ a, o a + S1024x4096.size a ≤ S2048x4096.size a) : Memref sig .tc .vmem S1024x4096 .f32 :=
  aM.slice (Rect.unit (s := S2048x4096) o S1024x4096.size h) (fun _ => rfl)
abbrev oH (o : Fin 2 → Nat) (h : ∀ a, o a + S1024x4096.size a ≤ S2048x4096.size a) : Memref sig .tc .hbm S1024x4096 .f32 :=
  oM.slice (Rect.unit (s := S2048x4096) o S1024x4096.size h) (fun _ => rfl)
/-- A tile of the accumulator as a window of it. -/
abbrev aR (o : Fin 2 → Nat) (h : ∀ a, o a + S1024x512.size a ≤ S2048x4096.size a) : Rect S2048x4096 :=
  Rect.unit (s := S2048x4096) o S1024x512.size h
abbrev wR (o : Fin 3 → Nat) (h : ∀ a, o a + S1x2048x512.size a ≤ S2x2048x512.size a) : Rect S2x2048x512 :=
  Rect.unit (s := S2x2048x512) o S1x2048x512.size h

/-! ## The semaphores -/

abbrev barS : Sem sig := (SemArray.scalar (sig.barrier 0 rfl) : Sems sig S_).sem
abbrev sendS (d : Fin 3) (h : Fin 2) : DmaSem sig := ⟨2 * d.val + h.val, by have := d.isLt; have := h.isLt; show _ < 19; omega⟩
abbrev recvS (d : Fin 3) (h : Fin 2) : DmaSem sig := ⟨6 + 2 * d.val + h.val, by have := d.isLt; have := h.isLt; show _ < 19; omega⟩
abbrev cinS : DmaSem sig := ⟨12, by decide⟩
abbrev coutS : DmaSem sig := ⟨13, by decide⟩
abbrev xS : DmaSem sig := ⟨14, by decide⟩
abbrev wS (p : Fin 2) : DmaSem sig := ⟨15 + p.val, by have := p.isLt; show _ < 19; omega⟩
abbrev outS (p : Fin 2) : DmaSem sig := ⟨17 + p.val, by have := p.isLt; show _ < 19; omega⟩

abbrev wSem (o : Fin 1 → Nat) (h : ∀ a, o a + S1.size a ≤ S2.size a) : DmaSem sig :=
  ((cc0_scratch11.slice (Rect.unit (s := S2) o S1.size h)).squeeze S_ squeezes_S1_S_).sem

/-! ## The steps -/

abbrev PR (F : FTy → Type) : Type → Type 1 := Prog (TpuEff nD τ sig (Elt F) Λ₀ .tc)

/-- A copy between two of the device's own buffers, started. -/
def cpStart {cs cs' : Space} {s : Shape} {e : EltTy} (src : Memref sig .tc cs s e) (dst : Memref sig .tc cs' s e) (sm : DmaSem sig)
    (hs : src.view.WordExact) (hd : dst.view.WordExact) (ht : DmaTarget.Typed (nD := nD) (τ := τ) (p := Proc.tc) cs (.dma sm) (.here dst)) : PR F PUnit :=
  Prog.lift (.enqueueDma src (.here dst) (.dma sm) hs hd ht)
/-- A wait on a copy's semaphore, for the size of `dst`. -/
def cpWait {cs cs' : Space} {s s' : Shape} {e e' : EltTy} (src : Memref sig .tc cs s e) (dst : Memref sig .tc cs' s' e') (sm : DmaSem sig)
    (hs : src.view.WordExact) (hd : dst.view.WordExact) : PR F PUnit :=
  Prog.lift (.waitDma2 sm src dst hs hd)

abbrev ev {cs : Space} {s : Shape} (m : Memref sig .tc cs s .f32) : m.view.WordExact := View.wordExact_bits rfl

/-- The payload of a staged quarter: each element narrowed. -/
abbrev qpay (v : Vec F S512x2048 .f32) : FVec F S512x2048 .bf16 := k0_pay3 v

/-- A quarter of `x` brought in, narrowed, and put into the staging buffer. -/
def quarter (o : Fin 2 → Nat) (h : ∀ a, o a + S512x2048.size a ≤ S8192x2048.size a)
    (q : Fin 3 → Nat) (hq : ∀ a, q a + S1x512x2048.size a ≤ S3x2048x2048.size a) (wq : (sQ q hq).view.WordExact) : PR F PUnit := do
  cpStart (xQ o h) cfM cinS (ev _) (ev _) ⟨Or.inl rfl, trivial⟩
  cpWait (xQ o h) cfM cinS (ev _) (ev _)
  let v ← Prog.lift (.load cfM (Rect.unit (s := S512x2048) ![0, 0] S512x2048.size inb_S512x2048_S512x2048_0_0).toLoadRect (View.loadsAt_vmem h_S512x2048))
  let _ ← Prog.lift (.load cbM (Rect.unit (s := S512x2048) ![0, 0] S512x2048.size inb_S512x2048_S512x2048_0_0).toLoadRect (View.loadsAt_vmem h_S512x2048))
  Prog.lift (.store cbM (Rect.unit (s := S512x2048) ![0, 0] S512x2048.size inb_S512x2048_S512x2048_0_0) (qpay v) Finset.univ
    (View.stores_vmem h_S512x2048 ((Memref.isWhole_whole cc0_scratch1).storeExact_slice rfl _ packedbf16_S512x2048_S512x2048_0_0) (fun _ => rfl)) (.inl rfl))
  cpStart cbM (sQ q hq) coutS (Memref.isWhole_whole cc0_scratch1).wordExact wq ⟨Or.inl rfl, trivial⟩
  cpWait cbM (sQ q hq) coutS (Memref.isWhole_whole cc0_scratch1).wordExact wq

/-- A half of the staging buffer sent into device `n`'s gather buffer. -/
def send (n : Dev nD) (q : Fin 3 → Nat) (hq : ∀ a, q a + S1x1024x2048.size a ≤ S3x2048x2048.size a)
    (g : Fin 3 → Nat) (hg : ∀ a, g a + S1x1024x2048.size a ≤ S4x2048x2048.size a) (sd rv : DmaSem sig)
    (wq : (sH q hq).view.WordExact) (wg : (gH g hg).view.WordExact) : PR F PUnit :=
  Prog.lift (.enqueueDma (sH q hq) (.remote (Dev.tc n) (gH g hg) (.dma sd)) (.dma rv) wq wg ⟨⟨rfl, Or.inl rfl⟩, trivial⟩)

/-- Both first tiles' copies, or one of them, started. -/
def wStart (o : Fin 2 → Nat) (h : ∀ a, o a + S2048x512.size a ≤ S8192x4096.size a)
    (p : Fin 3 → Nat) (hp : ∀ a, p a + S1x2048x512.size a ≤ S2x2048x512.size a) (sm : DmaSem sig) : PR F PUnit :=
  cpStart (wT o h) (slot p hp) sm (ev _) (ev _) ⟨Or.inl rfl, trivial⟩

/-- A landed half brought into the operand buffer. -/
def fetch (g : Fin 3 → Nat) (hg : ∀ a, g a + S1x1024x2048.size a ≤ S4x2048x2048.size a) (wg : (gH g hg).view.WordExact) : PR F PUnit := do
  cpStart (gH g hg) xbM xS wg (Memref.isWhole_whole cc0_scratch3).wordExact ⟨Or.inl rfl, trivial⟩
  cpWait (gH g hg) xbM xS wg (Memref.isWhole_whole cc0_scratch3).wordExact

/-- A trip of the first products: the tile awaited, its product stored, the tile after next started. -/
def tripA (sm : DmaSem sig) (p : Fin 3 → Nat) (hp : ∀ a, p a + S1x2048x512.size a ≤ S2x2048x512.size a)
    (p' : Fin 3 → Nat) (hp' : ∀ a, p' a + S1x2048x512.size a ≤ S2x2048x512.size a)
    (o : Fin 2 → Nat) (ho : ∀ a, o a + S1024x512.size a ≤ S2048x4096.size a) (C : Prop) [Decidable C] (nx : C → PR F PUnit) : PR F Unit := do
  cpWait (wT ![0, 0] inb_S8192x4096_S2048x512_0_0) (slot p hp) sm (ev _) (ev _)
  let x ← Prog.lift (.load xfM (Rect.unit (s := S1024x2048) ![0, 0] S1024x2048.size inb_S1024x2048_S1024x2048_0_0).toLoadRect (View.loadsAt_vmem h_S1024x2048))
  let w ← Prog.lift (.load wbM (wR p' hp').toLoadRect (View.loadsAt_vmem h_S1x2048x512))
  let _ ← Prog.lift (.load aM (aR o ho).toLoadRect (View.loadsAt_vmem h_S1024x512))
  Prog.lift (.store aM (aR o ho) (k0_pay15 x w) Finset.univ (View.stores_vmem_bits_univ h_S1024x512 rfl) (.inl rfl))
  if h : C then do
    nx h
    pure ⟨⟩
  else do
    pure ⟨⟩
  pure ⟨⟩

/-- A trip of the later products: as the first, added to what the tile holds. -/
def tripB (sm : DmaSem sig) (p : Fin 3 → Nat) (hp : ∀ a, p a + S1x2048x512.size a ≤ S2x2048x512.size a)
    (p' : Fin 3 → Nat) (hp' : ∀ a, p' a + S1x2048x512.size a ≤ S2x2048x512.size a)
    (o : Fin 2 → Nat) (ho : ∀ a, o a + S1024x512.size a ≤ S2048x4096.size a) (C : Prop) [Decidable C] (nx : C → PR F PUnit) : PR F Unit := do
  cpWait (wT ![0, 0] inb_S8192x4096_S2048x512_0_0) (slot p hp) sm (ev _) (ev _)
  let x ← Prog.lift (.load xbM (Rect.unit (s := S1024x2048) ![0, 0] S1024x2048.size inb_S1024x2048_S1024x2048_0_0).toLoadRect (View.loadsAt_vmem h_S1024x2048))
  let w ← Prog.lift (.load wbM (wR p' hp').toLoadRect (View.loadsAt_vmem h_S1x2048x512))
  let a ← Prog.lift (.load aM (aR o ho).toLoadRect (View.loadsAt_vmem h_S1024x512))
  let _ ← Prog.lift (.load aM (aR o ho).toLoadRect (View.loadsAt_vmem h_S1024x512))
  Prog.lift (.store aM (aR o ho) (k0_pay17 x w a) Finset.univ (View.stores_vmem_bits_univ h_S1024x512 rfl) (.inl rfl))
  if h : C then do
    nx h
    pure ⟨⟩
  else do
    pure ⟨⟩
  pure ⟨⟩

/-- A trip of the activation. -/
def tripS (o : Fin 2 → Nat) (ho : ∀ a, o a + S1024x512.size a ≤ S2048x4096.size a) : PR F Unit := do
  let a ← Prog.lift (.load aM (aR o ho).toLoadRect (View.loadsAt_vmem h_S1024x512))
  let _ ← Prog.lift (.load aM (aR o ho).toLoadRect (View.loadsAt_vmem h_S1024x512))
  Prog.lift (.store aM (aR o ho) (k0_pay22 a) Finset.univ (View.stores_vmem_bits_univ h_S1024x512 rfl) (.inl rfl))
  pure ⟨⟩

abbrev lp : Scf.Loop 32 := k0_t1_loop
abbrev T8 : Type := Fin lp.trips

/-- A loop of eight trips. -/
def loop8 (b : T8 → PR F Unit) : PR F Unit := Scf.Loop.for lp k0_t1_ok ⟨⟩ fun k _ => b k

/-! ## The body -/

/-- The words of a whole window of a 16-bit buffer. -/
theorem swe (q : Fin 3 → Nat) (hq : ∀ a, q a + S1x1024x2048.size a ≤ S3x2048x2048.size a)
    (w : (Rect.unit (s := S3x2048x2048) q S1x1024x2048.size hq).WholeWords (EltTy.packing .bf16)) : (sH q hq).view.WordExact :=
  ((Memref.isWhole_whole main_v1_2).wordExact_slice rfl _ w).reshape _ _
theorem sqwe (q : Fin 3 → Nat) (hq : ∀ a, q a + S1x512x2048.size a ≤ S3x2048x2048.size a)
    (w : (Rect.unit (s := S3x2048x2048) q S1x512x2048.size hq).WholeWords (EltTy.packing .bf16)) : (sQ q hq).view.WordExact :=
  ((Memref.isWhole_whole main_v1_2).wordExact_slice rfl _ w).reshape _ _
theorem gwe (g : Fin 3 → Nat) (hg : ∀ a, g a + S1x1024x2048.size a ≤ S4x2048x2048.size a)
    (w : (Rect.unit (s := S4x2048x2048) g S1x1024x2048.size hg).WholeWords (EltTy.packing .bf16)) : (gH g hg).view.WordExact :=
  ((Memref.isWhole_whole main_v1_1).wordExact_slice rfl _ w).reshape _ _

/-- The first row of the barrier: a unit to each other device, then three awaited. -/
def meet (d : Dev nD) : PR F PUnit := do
  semSignalWord (⟨k0_dev1 d, k0_dev1_lt d⟩ : Dev nD) barS 1#32
  semSignalWord (⟨k0_dev2 d, k0_dev2_lt d⟩ : Dev nD) barS 1#32
  semSignalWord (⟨k0_dev3 d, k0_dev3_lt d⟩ : Dev nD) barS 1#32
  semWaitWord barS 3#32

/-- A half staged as two quarters and sent. -/
def half (d n : Dev nD) (o₁ : Fin 2 → Nat) (h₁ : ∀ a, o₁ a + S512x2048.size a ≤ S8192x2048.size a)
    (o₂ : Fin 2 → Nat) (h₂ : ∀ a, o₂ a + S512x2048.size a ≤ S8192x2048.size a)
    (q₁ : Fin 3 → Nat) (hq₁ : ∀ a, q₁ a + S1x512x2048.size a ≤ S3x2048x2048.size a) (wq₁ : (Rect.unit (s := S3x2048x2048) q₁ S1x512x2048.size hq₁).WholeWords (EltTy.packing .bf16))
    (q₂ : Fin 3 → Nat) (hq₂ : ∀ a, q₂ a + S1x512x2048.size a ≤ S3x2048x2048.size a) (wq₂ : (Rect.unit (s := S3x2048x2048) q₂ S1x512x2048.size hq₂).WholeWords (EltTy.packing .bf16))
    (hq : ∀ a, q₁ a + S1x1024x2048.size a ≤ S3x2048x2048.size a) (wq : (Rect.unit (s := S3x2048x2048) q₁ S1x1024x2048.size hq).WholeWords (EltTy.packing .bf16))
    (g : Fin 3 → Nat) (hg : ∀ a, g a + S1x1024x2048.size a ≤ S4x2048x2048.size a) (wg : (Rect.unit (s := S4x2048x2048) g S1x1024x2048.size hg).WholeWords (EltTy.packing .bf16))
    (sd rv : DmaSem sig) : PR F PUnit := do
  quarter o₁ h₁ q₁ hq₁ (sqwe q₁ hq₁ wq₁)
  quarter o₂ h₂ q₂ hq₂ (sqwe q₂ hq₂ wq₂)
  send n q₁ hq g hg sd rv (swe q₁ hq wq) (gwe g hg wg)

/-- The six halves. -/
def halves (d : Dev nD) : PR F PUnit := do
  half d ⟨k0_dev4 d, k0_dev4_lt d⟩ (k0_off1 d 1#32 0#32) (k0_off1_inb d 0 0) (k0_off1 d 1#32 512#32) (k0_off1_inb d 0 1)
    ![0, 0, 0] _ wordsbf16_S3x2048x2048_S1x512x2048_0_0_0 ![0, 512, 0] _ wordsbf16_S3x2048x2048_S1x512x2048_0_512_0
    _ wordsbf16_S3x2048x2048_S1x1024x2048_0_0_0 (k0_off2 d) _ (k0_off2_wordsbf16 d) (sendS 0 0) (recvS 0 0)
  half d ⟨k0_dev5 d, k0_dev5_lt d⟩ (k0_off1 d 1#32 1024#32) (k0_off1_inb d 0 2) (k0_off1 d 1#32 1536#32) (k0_off1_inb d 0 3)
    ![0, 1024, 0] _ wordsbf16_S3x2048x2048_S1x512x2048_0_1024_0 ![0, 1536, 0] _ wordsbf16_S3x2048x2048_S1x512x2048_0_1536_0
    _ wordsbf16_S3x2048x2048_S1x1024x2048_0_1024_0 (k0_off3 d) _ (k0_off3_wordsbf16 d) (sendS 0 1) (recvS 0 1)
  half d ⟨k0_dev6 d, k0_dev6_lt d⟩ (k0_off1 d 2#32 0#32) (k0_off1_inb d 1 0) (k0_off1 d 2#32 512#32) (k0_off1_inb d 1 1)
    ![1, 0, 0] _ wordsbf16_S3x2048x2048_S1x512x2048_1_0_0 ![1, 512, 0] _ wordsbf16_S3x2048x2048_S1x512x2048_1_512_0
    _ wordsbf16_S3x2048x2048_S1x1024x2048_1_0_0 (k0_off2 d) _ (k0_off2_wordsbf16 d) (sendS 1 0) (recvS 1 0)
  half d ⟨k0_dev7 d, k0_dev7_lt d⟩ (k0_off1 d 2#32 1024#32) (k0_off1_inb d 1 2) (k0_off1 d 2#32 1536#32) (k0_off1_inb d 1 3)
    ![1, 1024, 0] _ wordsbf16_S3x2048x2048_S1x512x2048_1_1024_0 ![1, 1536, 0] _ wordsbf16_S3x2048x2048_S1x512x2048_1_1536_0
    _ wordsbf16_S3x2048x2048_S1x1024x2048_1_1024_0 (k0_off3 d) _ (k0_off3_wordsbf16 d) (sendS 1 1) (recvS 1 1)
  half d ⟨k0_dev8 d, k0_dev8_lt d⟩ (k0_off1 d 3#32 0#32) (k0_off1_inb d 2 0) (k0_off1 d 3#32 512#32) (k0_off1_inb d 2 1)
    ![2, 0, 0] _ wordsbf16_S3x2048x2048_S1x512x2048_2_0_0 ![2, 512, 0] _ wordsbf16_S3x2048x2048_S1x512x2048_2_512_0
    _ wordsbf16_S3x2048x2048_S1x1024x2048_2_0_0 (k0_off2 d) _ (k0_off2_wordsbf16 d) (sendS 2 0) (recvS 2 0)
  half d ⟨k0_dev9 d, k0_dev9_lt d⟩ (k0_off1 d 3#32 1024#32) (k0_off1_inb d 2 2) (k0_off1 d 3#32 1536#32) (k0_off1_inb d 2 3)
    ![2, 1024, 0] _ wordsbf16_S3x2048x2048_S1x512x2048_2_1024_0 ![2, 1536, 0] _ wordsbf16_S3x2048x2048_S1x512x2048_2_1536_0
    _ wordsbf16_S3x2048x2048_S1x1024x2048_2_1024_0 (k0_off3 d) _ (k0_off3_wordsbf16 d) (sendS 2 1) (recvS 2 1)

def xGo (o : Fin 2 → Nat) (h : ∀ a, o a + S1024x2048.size a ≤ S8192x2048.size a) : PR F PUnit :=
  cpStart (xH o h) xfM xS (ev _) (ev _) ⟨Or.inl rfl, trivial⟩
def xDone (o : Fin 2 → Nat) (h : ∀ a, o a + S1024x2048.size a ≤ S8192x2048.size a) : PR F PUnit :=
  cpWait (xH o h) xfM xS (ev _) (ev _)

abbrev w0 (d : Dev nD) (r : Fin 4) : PR F PUnit := wStart (k0_off5 d (BitVec.ofNat 32 r.val)) (k0_off5_inb d r) ![0, 0, 0] inb_S2x2048x512_S1x2048x512_0_0_0 (wS 0)
abbrev w1 (d : Dev nD) (r : Fin 4) : PR F PUnit := wStart (k0_off6 d (BitVec.ofNat 32 r.val)) (k0_off6_inb d r) ![1, 0, 0] inb_S2x2048x512_S1x2048x512_1_0_0 (wS 1)

/-- A landed half awaited. -/
def recv (q : Fin 3 → Nat) (hq : ∀ a, q a + S1x1024x2048.size a ≤ S3x2048x2048.size a) (wq : (sH q hq).view.WordExact)
    (g : Fin 3 → Nat) (hg : ∀ a, g a + S1x1024x2048.size a ≤ S4x2048x2048.size a) (wg : (gH g hg).view.WordExact) (sm : DmaSem sig) : PR F PUnit :=
  cpWait (sH q hq) (gH g hg) sm wq wg
/-- A sent half awaited. -/
def sent (g : Fin 3 → Nat) (hg : ∀ a, g a + S1x1024x2048.size a ≤ S4x2048x2048.size a) (wg : (gH g hg).view.WordExact)
    (q : Fin 3 → Nat) (hq : ∀ a, q a + S1x1024x2048.size a ≤ S3x2048x2048.size a) (wq : (sH q hq).view.WordExact) (sm : DmaSem sig) : PR F PUnit :=
  cpWait (gH g hg) (sH q hq) sm wg wq

abbrev r21 (d : Dev nD) (r : Fin 3) (sm : DmaSem sig) : PR F PUnit :=
  recv ![0, 0, 0] _ (swe _ _ wordsbf16_S3x2048x2048_S1x1024x2048_0_0_0) (k0_off21 d (BitVec.ofNat 32 (1 + r.val))) _ (gwe _ _ (k0_off21_wordsbf16 d r)) sm
abbrev r29 (d : Dev nD) (r : Fin 3) (sm : DmaSem sig) : PR F PUnit :=
  recv ![0, 1024, 0] _ (swe _ _ wordsbf16_S3x2048x2048_S1x1024x2048_0_1024_0) (k0_off29 d (BitVec.ofNat 32 (1 + r.val))) _ (gwe _ _ (k0_off29_wordsbf16 d r)) sm
abbrev f21 (d : Dev nD) (r : Fin 3) : PR F PUnit := fetch (k0_off21 d (BitVec.ofNat 32 (1 + r.val))) _ (gwe _ _ (k0_off21_wordsbf16 d r))
abbrev f29 (d : Dev nD) (r : Fin 3) : PR F PUnit := fetch (k0_off29 d (BitVec.ofNat 32 (1 + r.val))) _ (gwe _ _ (k0_off29_wordsbf16 d r))

def outGo (o : Fin 2 → Nat) (h : ∀ a, o a + S1024x4096.size a ≤ S2048x4096.size a) (sm : DmaSem sig) : PR F PUnit :=
  cpStart (aH o h) (oH o h) sm (ev _) (ev _) ⟨Or.inl rfl, trivial⟩
def outDone (o : Fin 2 → Nat) (h : ∀ a, o a + S1024x4096.size a ≤ S2048x4096.size a) (sm : DmaSem sig) : PR F PUnit :=
  cpWait (aH o h) (oH o h) sm (ev _) (ev _)

abbrev v2 (d : Dev nD) : BitVec 32 := Scalar.remsi (Scalar.divsi (Dev.word d) 1#32) 4#32
abbrev vj (d : Dev nD) (j : BitVec 32) : BitVec 32 := Scalar.remsi (Scalar.addi (v2 d) j) 4#32

def loop1 (d : Dev nD) : PR F Unit := loop8 fun k => tripA (wSem (k0_off7 k) (k0_off7_inb k)) (k0_off8 k) (k0_off8_inb k) (k0_off9 k) (k0_off9_inb k)
    (k0_off10 k) (k0_off10_inb k) (k0_cond1 k = 1#1) fun h => wStart (k0_off13 d k) (k0_off13_inb d k h) (k0_off12 k) (k0_off12_inb k h) (wSem (k0_off11 k) (k0_off11_inb k h))
def loop2 (d : Dev nD) : PR F Unit := loop8 fun k => tripA (wSem (k0_off14 k) (k0_off14_inb k)) (k0_off15 k) (k0_off15_inb k) (k0_off16 k) (k0_off16_inb k)
    (k0_off17 k) (k0_off17_inb k) (k0_cond2 k = 1#1) fun h => wStart (k0_off20 d k) (k0_off20_inb d k h) (k0_off19 k) (k0_off19_inb k h) (wSem (k0_off18 k) (k0_off18_inb k h))
def loop3 (d : Dev nD) : PR F Unit := loop8 fun k => tripB (wSem (k0_off22 k) (k0_off22_inb k)) (k0_off23 k) (k0_off23_inb k) (k0_off24 k) (k0_off24_inb k)
    (k0_off25 k) (k0_off25_inb k) (k0_cond3 k = 1#1) fun h => wStart (k0_off28 d k) (k0_off28_inb d k h) (k0_off27 k) (k0_off27_inb k h) (wSem (k0_off26 k) (k0_off26_inb k h))
def loop4 (d : Dev nD) : PR F Unit := loop8 fun k => tripB (wSem (k0_off30 k) (k0_off30_inb k)) (k0_off31 k) (k0_off31_inb k) (k0_off32 k) (k0_off32_inb k)
    (k0_off33 k) (k0_off33_inb k) (k0_cond4 k = 1#1) fun h => wStart (k0_off36 d k) (k0_off36_inb d k h) (k0_off35 k) (k0_off35_inb k h) (wSem (k0_off34 k) (k0_off34_inb k h))
def loop5 (d : Dev nD) : PR F Unit := loop8 fun k => tripB (wSem (k0_off37 k) (k0_off37_inb k)) (k0_off38 k) (k0_off38_inb k) (k0_off39 k) (k0_off39_inb k)
    (k0_off40 k) (k0_off40_inb k) (k0_cond5 k = 1#1) fun h => wStart (k0_off43 d k) (k0_off43_inb d k h) (k0_off42 k) (k0_off42_inb k h) (wSem (k0_off41 k) (k0_off41_inb k h))
def loop6 (d : Dev nD) : PR F Unit := loop8 fun k => tripB (wSem (k0_off44 k) (k0_off44_inb k)) (k0_off45 k) (k0_off45_inb k) (k0_off46 k) (k0_off46_inb k)
    (k0_off47 k) (k0_off47_inb k) (k0_cond6 k = 1#1) fun h => wStart (k0_off50 d k) (k0_off50_inb d k h) (k0_off49 k) (k0_off49_inb k h) (wSem (k0_off48 k) (k0_off48_inb k h))
def loop7 (d : Dev nD) : PR F Unit := loop8 fun k => tripB (wSem (k0_off51 k) (k0_off51_inb k)) (k0_off52 k) (k0_off52_inb k) (k0_off53 k) (k0_off53_inb k)
    (k0_off54 k) (k0_off54_inb k) (k0_cond7 k = 1#1) fun h => wStart (k0_off57 d k) (k0_off57_inb d k h) (k0_off56 k) (k0_off56_inb k h) (wSem (k0_off55 k) (k0_off55_inb k h))
def loop9 (d : Dev nD) : PR F Unit := loop8 fun k => tripB (wSem (k0_off59 k) (k0_off59_inb k)) (k0_off60 k) (k0_off60_inb k) (k0_off61 k) (k0_off61_inb k)
    (k0_off62 k) (k0_off62_inb k) (k0_cond8 k = 1#1) fun h => wStart (k0_off65 d k) (k0_off65_inb d k h) (k0_off64 k) (k0_off64_inb k h) (wSem (k0_off63 k) (k0_off63_inb k h))

def prog10 (d : Dev nD) : PR F PUnit := do
  meet d
  halves d
  xGo (k0_off4 d 0#32) (k0_off4_inb d 0)
  w0 d 0

def prog11 (d : Dev nD) : PR F (BitVec 32) := do
  w1 d 0
  xDone (k0_off4 d 0#32) (k0_off4_inb d 0)
  loop1 d
  xGo (k0_off4 d 1024#32) (k0_off4_inb d 1)
  w0 d 0
  w1 d 0
  xDone (k0_off4 d 1024#32) (k0_off4_inb d 1)
  loop2 d
  pure (vj d 3#32)
def prog12 (d : Dev nD) : PR F PUnit := do
  w0 d 3
  w1 d 3
  r21 d 2 (recvS 0 0)
  f21 d 2
def prog13 (d : Dev nD) : PR F PUnit := do
  loop3 d
  w0 d 3
  w1 d 3
  r29 d 2 (recvS 0 1)
def prog14 (d : Dev nD) : PR F (BitVec 32) := do
  f29 d 2
  loop4 d
  w0 d 1
  w1 d 1
  pure (vj d 1#32)
def prog15 (d : Dev nD) : PR F (Σ' (v373 : BitVec 32), BitVec 32) := do
  r21 d 0 (recvS 2 0)
  f21 d 0
  loop5 d
  w0 d 1
  w1 d 1
  pure ⟨Scalar.muli (vj d 1#32) 1#32, 0#32⟩
def prog16 (d : Dev nD) : PR F (Σ' (v387 : BitVec 32), BitVec 32) := do
  r29 d 0 (recvS 2 1)
  f29 d 0
  loop6 d
  w0 d 2
  w1 d 2
  pure ⟨vj d 2#32, Scalar.addi (v2 d) 2#32⟩
def prog17 (d : Dev nD) : PR F PUnit := do
  r21 d 1 (recvS 1 0)
  f21 d 1
  loop7 d
  loop8 fun k => tripS (k0_off58 k) (k0_off58_inb k)
  outGo ![0, 0] inb_S2048x4096_S1024x4096_0_0 (outS 0)
def prog18 (d : Dev nD) : PR F PUnit := do
  w0 d 2
  w1 d 2
  r29 d 1 (recvS 1 1)
  f29 d 1
  loop9 d
  pure ⟨⟩
abbrev se2 (d : Dev nD) (q : Fin 3 → Nat) (hq : ∀ a, q a + S1x1024x2048.size a ≤ S3x2048x2048.size a)
    (w : (Rect.unit (s := S3x2048x2048) q S1x1024x2048.size hq).WholeWords (EltTy.packing .bf16)) (sm : DmaSem sig) : PR F PUnit :=
  sent (k0_off2 d) _ (gwe _ _ (k0_off2_wordsbf16 d)) q hq (swe _ _ w) sm
abbrev se3 (d : Dev nD) (q : Fin 3 → Nat) (hq : ∀ a, q a + S1x1024x2048.size a ≤ S3x2048x2048.size a)
    (w : (Rect.unit (s := S3x2048x2048) q S1x1024x2048.size hq).WholeWords (EltTy.packing .bf16)) (sm : DmaSem sig) : PR F PUnit :=
  sent (k0_off3 d) _ (gwe _ _ (k0_off3_wordsbf16 d)) q hq (swe _ _ w) sm
def prog19 (d : Dev nD) : PR F PUnit := do
  loop8 fun k => tripS (k0_off66 k) (k0_off66_inb k)
  outGo ![1024, 0] inb_S2048x4096_S1024x4096_1024_0 (outS 1)
  outDone ![0, 0] inb_S2048x4096_S1024x4096_0_0 (outS 0)
  outDone ![1024, 0] inb_S2048x4096_S1024x4096_1024_0 (outS 1)
  se2 d ![0, 0, 0] _ wordsbf16_S3x2048x2048_S1x1024x2048_0_0_0 (sendS 0 0)
def prog20 (d : Dev nD) : PR F PUnit := do
  se3 d ![0, 1024, 0] _ wordsbf16_S3x2048x2048_S1x1024x2048_0_1024_0 (sendS 0 1)
  se2 d ![1, 0, 0] _ wordsbf16_S3x2048x2048_S1x1024x2048_1_0_0 (sendS 1 0)
  se3 d ![1, 1024, 0] _ wordsbf16_S3x2048x2048_S1x1024x2048_1_1024_0 (sendS 1 1)
  se2 d ![2, 0, 0] _ wordsbf16_S3x2048x2048_S1x1024x2048_2_0_0 (sendS 2 0)
  se3 d ![2, 1024, 0] _ wordsbf16_S3x2048x2048_S1x1024x2048_2_1024_0 (sendS 2 1)

def bodyP : PR F PUnit := do
  let d ← Prog.lift .deviceId
  prog10 d
  let _ ← prog11 d
  prog12 d
  prog13 d
  let _ ← prog14 d
  let _ ← prog15 d
  let _ ← prog16 d
  prog17 d
  prog18 d
  prog19 d
  prog20 d
  pure ⟨⟩

end Cert.A2A

end
-- ==== Proof.Geo.lean ====
/-
Where the kernel's windows lie: which elements of its buffers each covers, and what reading one after writing
another gives.
-/
module

public import proofs.«01_k».proof.Proof.Segs
public import Idealize.ShloMosaic.Lib.Pipeline.Value
public import Idealize.ShloMosaic.Lib.Pipeline.ValueKit.Geometry

@[expose] public section

noncomputable section

namespace Cert.A2A

open Cert.KernelIdeal Cert.KernelIdeal.Gen
open Idealize.ShloMosaic
open Idealize.ShloMosaic.TcCoe
open Idealize.SL.Sem

variable {F : FTy → Type} [FloatOps F]

/-! ## Windows with a leading axis dropped -/

/-- The elements under a window of a whole buffer, viewed at another shape: the window's. -/
theorem sq_set (b : Ref sig .tc) (o size : Fin b.ty.shape.rank → Nat) (h : ∀ a, o a + size a ≤ b.ty.shape.size a) (s' : Shape)
    (hq : s'.numel = (Rect.unit o size h).shape.numel) :
    (((View.whole b).slice (Rect.unit o size h)).reshape s' hq).set = (Rect.unit o size h).set := by
  rw [View.set_reshape, View.set_slice_whole]

theorem sH_set (o h) : (sH o h).view.set = (Rect.unit (s := S3x2048x2048) o S1x1024x2048.size h).set := sq_set main_v1_2 _ _ _ _ _
theorem sQ_set (o h) : (sQ o h).view.set = (Rect.unit (s := S3x2048x2048) o S1x512x2048.size h).set := sq_set main_v1_2 _ _ _ _ _
theorem gH_set (o h) : (gH o h).view.set = (Rect.unit (s := S4x2048x2048) o S1x1024x2048.size h).set := sq_set main_v1_1 _ _ _ _ _
theorem slot_set (o h) : (slot o h).view.set = (Rect.unit (s := S2x2048x512) o S1x2048x512.size h).set := sq_set cc0_scratch4 _ _ _ _ _
theorem aH_set (o h) : (aH o h).view.set = (Rect.unit (s := S2048x4096) o S1024x4096.size h).set := View.set_slice_whole cc0_scratch5 _
theorem oH_set (o h) : (oH o h).view.set = (Rect.unit (s := S2048x4096) o S1024x4096.size h).set := View.set_slice_whole main_v1_0 _
theorem xH_set (o h) : (xH o h).view.set = (Rect.unit (s := S8192x2048) o S1024x2048.size h).set := View.set_slice_whole main_arg0 _
theorem xQ_set (o h) : (xQ o h).view.set = (Rect.unit (s := S8192x2048) o S512x2048.size h).set := View.set_slice_whole main_arg0 _
theorem wT_set (o h) : (wT o h).view.set = (Rect.unit (s := S8192x4096) o S2048x512.size h).set := View.set_slice_whole main_arg1 _
theorem aR_set (o h) : ((aM.access (aR o h)).setOn Finset.univ) = (Rect.unit (s := S2048x4096) o S1024x512.size h).set := View.set_slice_whole cc0_scratch5 _

/-- A window inside another. -/
theorem unit_subset {s : Shape} {o size o' size' : Fin s.rank → Nat} {h h'} (hlo : ∀ a, o' a ≤ o a) (hhi : ∀ a, o a + size a ≤ o' a + size' a) :
    (Rect.unit o size h : Rect s).set ⊆ (Rect.unit o' size' h').set := fun i hi =>
  Rect.mem_set_unit.mpr fun a => ⟨(hlo a).trans (Rect.mem_set_unit.mp hi a).1, (Rect.mem_set_unit.mp hi a).2.trans_le (hhi a)⟩

/-- A quarter of a half of the staging buffer: the first, the second. -/
theorem sQ_sub {d y y' : Nat} {h h'} (h1 : y ≤ y') (h2 : y' ≤ y + 512) : (sQ ![d, y', 0] h').view.set ⊆ (sH ![d, y, 0] h).view.set := by
  rw [sQ_set, sH_set]
  exact unit_subset (by intro a; fin_cases a <;> simp <;> omega) (by intro a; fin_cases a <;> simp <;> omega)

/-- A tile of a half of the accumulator. -/
theorem aR_sub {y z : Nat} {h h'} : (aM.access (aR ![y, z] h')).setOn Finset.univ ⊆ (aH ![y, 0] h).view.set := by
  rw [aR_set, aH_set]
  have hz : z + 512 ≤ 4096 := h' 1
  exact unit_subset (by intro a; fin_cases a <;> simp) (by intro a; fin_cases a <;> simp <;> omega)

/-! ## Where a window's element lies -/

/-- Dropping a leading axis of one. -/
theorem drop_eq {n : Nat} (d : Fin n → Nat) (h : (⟨n, d⟩ : Shape).numel = (⟨n + 1, Matrix.vecCons 1 d⟩ : Shape).numel) (j : (⟨n, d⟩ : Shape).Idx) :
    Shape.reshapeEquiv h j = (Fin.cons ⟨0, Nat.one_pos⟩ j : (⟨n + 1, Matrix.vecCons 1 d⟩ : Shape).Idx) :=
  shapeCast_dropUnit_apply d (fun i => i) h j

theorem sH_emb (o h) (j : S1024x2048.Idx) (a : Fin 3) : ((sH o h).view.emb j a).val = o a + ((Fin.cons ⟨0, Nat.one_pos⟩ j : S1x1024x2048.Idx) a).val :=
  (ValueKit.rect_emb_unit_val (s := S3x2048x2048) o S1x1024x2048.size h _ a).trans
    (congrArg (fun i : S1x1024x2048.Idx => o a + (i a).val) (drop_eq ![1024, 2048] _ j))
theorem sQ_emb (o h) (j : S512x2048.Idx) (a : Fin 3) : ((sQ o h).view.emb j a).val = o a + ((Fin.cons ⟨0, Nat.one_pos⟩ j : S1x512x2048.Idx) a).val :=
  (ValueKit.rect_emb_unit_val (s := S3x2048x2048) o S1x512x2048.size h _ a).trans
    (congrArg (fun i : S1x512x2048.Idx => o a + (i a).val) (drop_eq ![512, 2048] _ j))

/-- An element of a half, in one quarter or the other: its place in it. -/
def inQ (j : S1024x2048.Idx) : S512x2048.Idx := fun
  | ⟨0, _⟩ => ⟨(j 0).val % 512, Nat.mod_lt _ (by decide)⟩
  | ⟨1, _⟩ => j 1
/-- A quarter's element in its half, the quarter `y` rows down. -/
def ofQ (y : Nat) (hy : y + 512 ≤ 1024) (i : S512x2048.Idx) : S1024x2048.Idx := fun
  | ⟨0, _⟩ => ⟨y + (i 0).val, by have : (i 0).val < 512 := (i 0).isLt; show _ < 1024; omega⟩
  | ⟨1, _⟩ => i 1

/-- A half of the staging buffer reads as its two quarters do. -/
theorem sH_read {d y : Nat} {h h₁ h₂} (f : (sM).view.ty.Contents (Elt F)) (X : S1024x2048.Idx → Elt F .bf16)
    (e₁ : ∀ i, (sQ ![d, y, 0] h₁).view.read (Elt F) f i = X (ofQ 0 (by decide) i))
    (e₂ : ∀ i, (sQ ![d, y + 512, 0] h₂).view.read (Elt F) f i = X (ofQ 512 (by decide) i)) :
    (sH ![d, y, 0] h).view.read (Elt F) f = X := by
  funext j
  have hj : (j 0).val < 1024 := (j 0).isLt
  by_cases hlt : (j 0).val < 512
  · have hX : X j = X (ofQ 0 (by decide) (inQ j)) := congrArg X (_root_.Idealize.ShloMosaic.Shape.idx_ext₂ (by show (j 0).val = 0 + (j 0).val % 512; omega) rfl)
    rw [hX, ← e₁ (inQ j)]
    refine congrArg f (funext fun a => Fin.ext ?_)
    rw [sH_emb, sQ_emb]
    fin_cases a
    · rfl
    · show y + (j 0).val = y + (j 0).val % 512; omega
    · rfl
  · have hX : X j = X (ofQ 512 (by decide) (inQ j)) := congrArg X (_root_.Idealize.ShloMosaic.Shape.idx_ext₂ (by show (j 0).val = 512 + (j 0).val % 512; omega) rfl)
    rw [hX, ← e₂ (inQ j)]
    refine congrArg f (funext fun a => Fin.ext ?_)
    rw [sH_emb, sQ_emb]
    fin_cases a
    · rfl
    · show y + (j 0).val = (y + 512) + (j 0).val % 512; omega
    · rfl

/-- A half of a device's rows narrowed: what it sends. -/
def XH (o : Fin 2 → Nat) (h : ∀ a, o a + S1024x2048.size a ≤ S8192x2048.size a) (f : (xM).view.ty.Contents (Elt F)) : FVec F S1024x2048 .bf16 :=
  truncf .bf16 ((xH o h).view.read (Elt F) f) bitsLt_bf16_f32

theorem qpay_eq (v : Vec F S512x2048 .f32) : qpay v = truncf .bf16 v bitsLt_bf16_f32 := shapeCast_self _ _

/-- A quarter's payload is its part of the half's. -/
theorem qpay_XH {r y y' : Nat} (hy : y + 512 ≤ 1024) {h h'} (hr : y' = r + y) (f : (xM).view.ty.Contents (Elt F)) (i : S512x2048.Idx) :
    qpay ((xQ ![y', 0] h').view.read (Elt F) f) i = XH ![r, 0] h f (ofQ y hy i) := by
  subst hr
  rw [qpay_eq]
  refine congrArg (FloatOps.truncf .bf16 bitsLt_bf16_f32) (congrArg f (funext fun a => Fin.ext ?_))
  rw [show ((xQ ![r + y, 0] h').view.emb i a).val = _ from ValueKit.rect_emb_unit_val (s := S8192x2048) ![r + y, 0] S512x2048.size h' i a,
    show ((xH ![r, 0] h).view.emb (ofQ y hy i) a).val = _ from ValueKit.rect_emb_unit_val (s := S8192x2048) ![r, 0] S1024x2048.size h (ofQ y hy i) a]
  fin_cases a
  · show r + y + (i 0).val = r + (y + (i 0).val); omega
  · rfl

end Cert.A2A

end
-- ==== Proof.Sched.lean ====
/-
Who owes whom what, and when: the barrier's and the copies' cells, what each hands over, and each device's debts.
-/
module

public import proofs.«01_k».proof.Proof.Geo
public import Idealize.ShloMosaic.Lib.Transfers
public import Idealize.ShloMosaic.Lib.Rounds

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 3)
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR
abbrev EC : UEmb Counters (MT nD τ sig Unit (Elt F) ℕ UU ℕ) := countersEmb

variable (m : (ℓ : Loc nD τ sig) → Buf (Elt F) ℓ) (ρ : Dev nD → PrngReg)

/-! ## The devices around -/

/-- The device `n` further on. -/
def add (c : Dev nD) (n : ℕ) : Dev nD := ⟨(c.val + n) % 4, Nat.mod_lt _ (by decide)⟩

theorem add_inj {n : ℕ} {c c' : Dev nD} (h : add c n = add c' n) : c = c' := by
  have hv : (c.val + n) % 4 = (c'.val + n) % 4 := congrArg Fin.val h
  have h1 : c.val < 4 := c.isLt
  have h2 : c'.val < 4 := c'.isLt
  exact Fin.ext (by omega)
theorem add_add (c : Dev nD) (a b : ℕ) : add (add c a) b = add c (a + b) := Fin.ext (by simp only [add]; omega)
theorem add_four (c : Dev nD) {n : ℕ} (h : n % 4 = 0) : add c n = c := Fin.ext (by have : c.val < 4 := c.isLt; simp only [add]; omega)

/-! ## Windows by device and half -/

theorem gO_inb (s : Dev nD) (h : Fin 2) : ∀ a, (![s.val, 1024 * h.val, 0] : Fin 3 → ℕ) a + S1x1024x2048.size a ≤ S4x2048x2048.size a := by
  have h1 : s.val < 4 := s.isLt
  have h2 := h.isLt
  intro a; fin_cases a <;> simp <;> omega
theorem sO_inb (d : Fin 3) (h : Fin 2) : ∀ a, (![d.val, 1024 * h.val, 0] : Fin 3 → ℕ) a + S1x1024x2048.size a ≤ S3x2048x2048.size a := by
  have h1 := d.isLt
  have h2 := h.isLt
  intro a; fin_cases a <;> simp <;> omega
theorem xO_inb (t : Dev nD) (h : Fin 2) : ∀ a, (![2048 * t.val + 1024 * h.val, 0] : Fin 2 → ℕ) a + S1024x2048.size a ≤ S8192x2048.size a := by
  have h1 : t.val < 4 := t.isLt
  have h2 := h.isLt
  intro a; fin_cases a <;> simp <;> omega
theorem hO_inb (h : Fin 2) : ∀ a, (![1024 * h.val, 0] : Fin 2 → ℕ) a + S1024x4096.size a ≤ S2048x4096.size a := by
  have h2 := h.isLt
  intro a; fin_cases a <;> simp <;> omega
theorem pO_inb (p : Fin 2) : ∀ a, (![p.val, 0, 0] : Fin 3 → ℕ) a + S1x2048x512.size a ≤ S2x2048x512.size a := by
  have h2 := p.isLt
  intro a; fin_cases a <;> simp <;> omega

/-- The half `h` of device `s`'s slot of the gather buffer. -/
abbrev gW (s : Dev nD) (h : Fin 2) : Memref sig .tc .hbm S1024x2048 .bf16 := gH ![s.val, 1024 * h.val, 0] (gO_inb s h)
/-- The half `h` of the staging slot of the device `d + 1` further on. -/
abbrev sW (d : Fin 3) (h : Fin 2) : Memref sig .tc .hbm S1024x2048 .bf16 := sH ![d.val, 1024 * h.val, 0] (sO_inb d h)
/-- The half `h` of the rows for device `t`. -/
abbrev xW (t : Dev nD) (h : Fin 2) : Memref sig .tc .hbm S1024x2048 .f32 := xH ![2048 * t.val + 1024 * h.val, 0] (xO_inb t h)
abbrev aW (h : Fin 2) : Memref sig .tc .vmem S1024x4096 .f32 := aH ![1024 * h.val, 0] (hO_inb h)
abbrev oW (h : Fin 2) : Memref sig .tc .hbm S1024x4096 .f32 := oH ![1024 * h.val, 0] (hO_inb h)
abbrev pW (p : Fin 2) : Memref sig .tc .vmem S2048x512 .f32 := slot ![p.val, 0, 0] (pO_inb p)

/-- The half `h` of the rows for device `t` as device `s` sends them. -/
def XS (s t : Dev nD) (h : Fin 2) : FVec F S1024x2048 .bf16 := XH ![2048 * t.val + 1024 * h.val, 0] (xO_inb t h) (m ((s : Thread nD τ).loc main_arg0))

/-! ## The cells -/

abbrev hi (e : Fin 6) : Fin 3 := ⟨e.val / 2, by omega⟩
abbrev lo (e : Fin 6) : Fin 2 := ⟨e.val % 2, by omega⟩
abbrev sendD (e : Fin 6) : DmaSem sig := ⟨e.val, by have := e.isLt; show _ < 19; omega⟩
abbrev recvD (e : Fin 6) : DmaSem sig := ⟨6 + e.val, by have := e.isLt; show _ < 19; omega⟩

abbrev barC (c : Dev nD) : GSem nD τ sig := ((c : Thread nD τ), .reg barS)
abbrev sendC (c : Dev nD) (e : Fin 6) : GSem nD τ sig := ((c : Thread nD τ), .dma (sendD e))
abbrev recvC (c : Dev nD) (e : Fin 6) : GSem nD τ sig := ((c : Thread nD τ), .dma (recvD e))
/-- The device a half goes to. -/
abbrev tgt (c : Dev nD) (e : Fin 6) : Dev nD := add c (e.val / 2 + 1)
/-- The device a half comes from. -/
abbrev origin (c : Dev nD) (e : Fin 6) : Dev nD := add c (3 - e.val / 2)

theorem origin_tgt (c : Dev nD) (e : Fin 6) : origin (tgt c e) e = c := by
  show add (add c _) _ = c
  rw [add_add]; exact add_four c (by have := e.isLt; omega)

abbrev osem : Fin 19 → SemLoc sig := fun k => .dma k
abbrev csem : Fin 13 → SemLoc sig := fun k => if h : k.val < 12 then .dma ⟨k.val, by show _ < 19; omega⟩ else .reg barS
abbrev kcell (ck : Dev nD × Fin 13) : GSem nD τ sig := ((ck.1 : Thread nD τ), csem ck.2)

/-- The credit of a half. -/
def NH : ℕ := (gW 0 0).view.dmaCredit
theorem NH_pos : 0 < NH := View.dmaCredit_pos _ (by decide)

/-- A window of a buffer on a device, whole, at some contents of the buffer. -/
abbrev pt (c : Dev nD) {sp : Space} {s : Shape} {e : EltTy} (w : Memref sig .tc sp s e) (f : Buf (Elt F) (w.view.loc (c : Thread nD τ))) : sProp 𝕄 :=
  (w.view.loc (c : Thread nD τ)) ↦[w.view.set]{fullShare} f

/-! ## The schedule -/

/-- What device `t` may write once the device `e + 1` further on has arrived: its two halves there. -/
def barPay (t : Dev nD) (e : Fin 3) : sProp 𝕄 :=
  iprop((∃ f, pt (add t (e.val + 1)) (gW t 0) f) ∗ (∃ f, pt (add t (e.val + 1)) (gW t 1) f))
/-- What lands: the sender's half for device `t`. -/
def recvPay (t : Dev nD) (e : Fin 6) : sProp 𝕄 := owns (t : Thread nD τ) (gW (origin t e) (lo e)) fullShare (XS m (origin t e) t (lo e))
def sendPay (c : Dev nD) (e : Fin 6) : sProp 𝕄 := iprop(∃ f, pt c (sW (hi e) (lo e)) f)

instance barPay_storable (t : Dev nD) (e : Fin 3) : BI.Storable (upEmb : UEmb _ 𝕄) (barPay (F := F) t e) := by unfold barPay; infer_instance
instance recvPay_storable (t : Dev nD) (e : Fin 6) : BI.Storable (upEmb : UEmb _ 𝕄) (recvPay (F := F) m t e) := by unfold recvPay; infer_instance
instance sendPay_storable (t : Dev nD) (e : Fin 6) : BI.Storable (upEmb : UEmb _ 𝕄) (sendPay (F := F) t e) := by unfold sendPay; infer_instance

/-- The duties of a semaphore: the barrier one from each other device, a send or a receive cell one. -/
def duty : SemLoc sig → Finset (Fin 3)
  | .reg s => if s = barS then Finset.univ else ∅
  | .dma k => if k.val < 12 then {0} else ∅
def amt : SemLoc sig → ℕ
  | .reg _ => 1
  | .dma _ => NH
def payOf (t : Dev nD) (e : Fin 3) : SemLoc sig → sProp 𝕄
  | .reg _ => barPay t e
  | .dma k => if h : k.val < 6 then sendPay t ⟨k.val, h⟩ else if h' : k.val < 12 then recvPay m t ⟨k.val - 6, by omega⟩ else iprop(emp)

instance payOf_storable (t : Dev nD) (e : Fin 3) (g : SemLoc sig) : BI.Storable (upEmb : UEmb _ 𝕄) (payOf (F := F) m t e g) := by
  cases g with
  | reg s => exact barPay_storable t e
  | dma k =>
    show BI.Storable upEmb (if h : k.val < 6 then sendPay t ⟨k.val, h⟩ else if h' : k.val < 12 then recvPay m t ⟨k.val - 6, by omega⟩ else iprop(emp))
    split
    · infer_instance
    · split <;> infer_instance

/-- One round. -/
def rd : Rounds.Schedule (GSem nD τ sig) (Fin 3) 𝕄 where
  duties g r := if r = 0 ∧ g.1.2 = .tc then duty g.2 else ∅
  unitless _ := False
  amount g _ _ := amt g.2
  payload g _ e := payOf m g.1.1 e g.2
  amount_pos g _ _ _ := by
    show 0 < amt g.2
    cases g.2 with
    | reg s => exact Nat.one_pos
    | dma k => exact NH_pos

instance rd_storable (g : GSem nD τ sig) (r : ℕ) (e : Fin 3) : BI.Storable (upEmb : UEmb _ 𝕄) ((rd (F := F) m).payload g r e) :=
  payOf_storable m g.1.1 e g.2

section Facts
variable (c : Dev nD)

theorem duties_tc (sm : SemLoc sig) : (rd (F := F) m).duties ((c : Thread nD τ), sm) 0 = duty sm := by dsimp only [rd]; exact if_pos ⟨rfl, rfl⟩
theorem duties_bar : (rd (F := F) m).duties (barC c) 0 = Finset.univ := (duties_tc m c _).trans (by dsimp only [duty]; exact if_pos rfl)
theorem duties_send (e : Fin 6) : (rd (F := F) m).duties (sendC c e) 0 = {0} :=
  (duties_tc m c _).trans (if_pos (by have := e.isLt; show e.val < 12; omega))
theorem duties_recv (e : Fin 6) : (rd (F := F) m).duties (recvC c e) 0 = {0} :=
  (duties_tc m c _).trans (if_pos (by have := e.isLt; show 6 + e.val < 12; omega))
theorem duties_later (g : GSem nD τ sig) : ∀ r, 1 ≤ r → (rd (F := F) m).duties g r = ∅ := fun r hr => if_neg fun h => by omega

theorem expect_bar : (rd (F := F) m).expect (barC c) 0 = 3 := by
  unfold Schedule.expect Schedule.amountOf
  rw [duties_bar]; rfl
theorem expect_send (e : Fin 6) : (rd (F := F) m).expect (sendC c e) 0 = NH := by
  unfold Schedule.expect Schedule.amountOf; rw [duties_send, Finset.sum_singleton]; rfl
theorem expect_recv (e : Fin 6) : (rd (F := F) m).expect (recvC c e) 0 = NH := by
  unfold Schedule.expect Schedule.amountOf; rw [duties_recv, Finset.sum_singleton]; rfl

theorem payload_bar (e : Fin 3) : (rd (F := F) m).payload (barC c) 0 e = barPay c e := rfl
theorem payload_send (e : Fin 6) (x : Fin 3) : (rd (F := F) m).payload (sendC c e) 0 x = sendPay c e := dif_pos e.isLt
theorem payload_recv (e : Fin 6) (x : Fin 3) : (rd (F := F) m).payload (recvC c e) 0 x = recvPay m c e :=
  (dif_neg (by show ¬ 6 + e.val < 6; omega)).trans ((dif_pos (by have := e.isLt; show 6 + e.val < 12; omega)).trans
    (congrArg (recvPay m c) (Fin.ext (by show 6 + e.val - 6 = e.val; omega))))

theorem rest_bar : bigSep ((rd (F := F) m).duties (barC c) 0 \ ∅) (fun e => (rd (F := F) m).payload (barC c) 0 e)
    = iprop(barPay c 0 ∗ barPay c 1 ∗ barPay c 2) := by
  rw [Finset.sdiff_empty, duties_bar, bigSep_univ_eq_bigSepL [0, 1, 2] (by decide) (by decide), bigSepL_cons_cons, bigSepL_cons_cons, bigSepL_singleton]
  rfl
theorem rest_send (e : Fin 6) : bigSep ((rd (F := F) m).duties (sendC c e) 0 \ ∅) (fun x => (rd (F := F) m).payload (sendC c e) 0 x) = sendPay c e := by
  rw [Finset.sdiff_empty, duties_send, bigSep_singleton, payload_send]
theorem rest_recv (e : Fin 6) : bigSep ((rd (F := F) m).duties (recvC c e) 0 \ ∅) (fun x => (rd (F := F) m).payload (recvC c e) 0 x) = recvPay m c e := by
  rw [Finset.sdiff_empty, duties_recv, bigSep_singleton, payload_recv]

end Facts

/-! ## Debts and levels -/

/-- What a device owes the receive cells for the halves of a list. -/
def OL (c : Dev nD) : List (Fin 6) → CellTallies nD τ sig Unit
  | [] => 0
  | e :: l => OL c l + tallyAt (recvC (tgt c e) e) () NH
/-- And a unit to the barriers for a list of the others, besides all six halves. -/
def OB (c : Dev nD) : List (Fin 3) → CellTallies nD τ sig Unit
  | [] => OL c [0, 1, 2, 3, 4, 5]
  | e :: l => OB c l + tallyAt (barC (add c (e.val + 1))) () 1
abbrev O₀ (c : Dev nD) : CellTallies nD τ sig Unit := OB c [0, 1, 2]

def L (g : GSem nD τ sig) : Finset Unit := if g.1.2 = .tc then {()} else ∅
/-- The barrier at 1, receive cells at 2, the rest at 0. -/
def lvl : SemLoc sig → ℕ
  | .reg _ => 1
  | .dma k => if 6 ≤ k.val ∧ k.val < 12 then 2 else 0
def lv (g : GSem nD τ sig) (_ : Unit) : ℕ := lvl g.2

theorem L_of_ne (g : GSem nD τ sig) (h : g.1.2 ≠ .tc) : L g = ∅ := if_neg h
theorem L_tc (c : Dev nD) (sm : SemLoc sig) : L ((c : Thread nD τ), sm) = {()} := if_pos rfl

theorem lv_recv (c : Dev nD) (e : Fin 6) : lv (recvC c e) () = 2 := if_pos (by have := e.isLt; show 6 ≤ 6 + e.val ∧ 6 + e.val < 12; omega)

theorem tally_pos {O : CellTallies nD τ sig Unit} {g g' : GSem nD τ sig} {u : Unit} {n : ℕ} (h : 0 < (O + tallyAt g' () n) g u) : 0 < O g u ∨ g = g' := by
  rw [Pi.add_apply, Finsupp.add_apply, tallyAt_apply] at h
  by_cases hg : g = g' ∧ u = ()
  · exact .inr hg.1
  · rw [if_neg hg] at h; exact .inl (by omega)
theorem OL_pos {c : Dev nD} {g : GSem nD τ sig} {u : Unit} {l : List (Fin 6)} (h : 0 < OL c l g u) : g.1.2 = .tc ∧ lv g u = 2 := by
  induction l with
  | nil => exact absurd h (Nat.lt_irrefl 0)
  | cons e l ih =>
    rcases tally_pos h with h | rfl
    · exact ih h
    · exact ⟨rfl, lv_recv _ e⟩
theorem OB_pos {c : Dev nD} {g : GSem nD τ sig} {u : Unit} {l : List (Fin 3)} (h : 0 < OB c l g u) : g.1.2 = .tc ∧ 1 ≤ lv g u := by
  induction l with
  | nil => exact (OL_pos h).imp id fun h => by omega
  | cons e l ih =>
    rcases tally_pos h with h | rfl
    · exact ih h
    · exact ⟨rfl, Nat.le_refl 1⟩

theorem mem_L {g : GSem nD τ sig} (u : Unit) (h : g.1.2 = .tc) : u ∈ L g := by unfold L; rw [if_pos h]; exact Finset.mem_singleton_self _

/-- A wait on a low cell while owing only receive cells. -/
theorem mayWait_OL (c : Dev nD) (sm : SemLoc sig) (l : List (Fin 6)) (h : lvl sm ≤ 1) : (levAts L lv : sProp 𝕄) ⊢ MayWait (c : Thread nD τ) sm () (OL c l) :=
  MayOwe.of_cut (L := L) (lev := lv) 1 (fun p hp => by rw [Finset.mem_singleton.mp hp, L_tc]; exact Finset.mem_singleton_self _)
    (fun g u hg => mem_L u (OL_pos hg).1) (fun p hp => by rw [Finset.mem_singleton.mp hp]; exact h)
    (fun g u hg => by rw [(OL_pos hg).2]; decide)
/-- A wait on a local copy's cell while owing what a device owes at launch. -/
theorem mayWait_O₀ (c : Dev nD) (sm : SemLoc sig) (h : lvl sm = 0) : (levAts L lv : sProp 𝕄) ⊢ MayWait (c : Thread nD τ) sm () (O₀ c) :=
  MayOwe.of_cut (L := L) (lev := lv) 0 (fun p hp => by rw [Finset.mem_singleton.mp hp, L_tc]; exact Finset.mem_singleton_self _)
    (fun g u hg => mem_L u (OB_pos hg).1) (fun p hp => by rw [Finset.mem_singleton.mp hp]; exact h.le)
    (fun g u hg => (OB_pos hg).2)

/-- What a device owes, whatever it has waited on. -/
abbrev owed (c : Dev nD) (O : CellTallies nD τ sig Unit) : sProp 𝕄 := iprop(∃ W, owes (c : Thread nD τ) O W)

abbrev 𝒱₀ : Variants := Variants.none
/-- Running a step on device `c`, then `Q`. -/
abbrev runs (c : Dev nD) {α : Type} (p : PR F α) (Q : α → sProp 𝕄) : sProp 𝕄 := wp frame (wpE (defs₀ (F := F)) 𝒱₀ (c : Thread nD τ) none) Set.univ p Q

/-- All the cells' invariants, and that each is at its only round. -/
def records (K : Dev nD × Fin 13 → ℕ) : sProp 𝕄 :=
  bigSep Finset.univ fun ck => iprop(cellInv ER (rd m) (K ck) (kcell ck) ∗ reached ER (kcell ck) 0)
instance records_persistent (K : Dev nD × Fin 13 → ℕ) : BI.Persistent (records m K) := by unfold records; infer_instance

abbrev kS (c : Dev nD) (e : Fin 6) : Dev nD × Fin 13 := (c, ⟨e.val, by omega⟩)
abbrev kR (c : Dev nD) (e : Fin 6) : Dev nD × Fin 13 := (c, ⟨6 + e.val, by omega⟩)
abbrev kB (c : Dev nD) : Dev nD × Fin 13 := (c, 12)
theorem kcell_S (c : Dev nD) (e : Fin 6) : kcell (kS c e) = sendC c e := by
  show (_, dite _ _ _) = _
  rw [dif_pos (by have := e.isLt; show e.val < 12; omega)]
theorem kcell_R (c : Dev nD) (e : Fin 6) : kcell (kR c e) = recvC c e := by
  show (_, dite _ _ _) = _
  rw [dif_pos (by have := e.isLt; show 6 + e.val < 12; omega)]
theorem kcell_B (c : Dev nD) : kcell (kB c) = barC c := rfl

theorem rec_at (K : Dev nD × Fin 13 → ℕ) (ck : Dev nD × Fin 13) {g : GSem nD τ sig} (h : kcell ck = g) :
    records m K ⊢ iprop(cellInv ER (rd m) (K ck) g ∗ reached ER g 0) := by
  subst h
  exact bigSep_elim (Finset.mem_univ ck)

end Cert.A2A

end
-- ==== Proof.Steps.lean ====
/-
What each step of the kernel does: the local copies, a staged quarter, a sent half, the waits.
-/
module

public import proofs.«01_k».proof.Proof.Sched
public import Idealize.ShloMosaic.Lib.Scf

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

local notation "𝕄" => MT nD τ sig Unit (Elt F) ℕ UU ℕ

/-! ## Taking a window out of what is held, to be put back -/

theorem carve {ℓ : Loc nD τ sig} {S T : Finset (Idx ℓ)} {q : PosShare TreeShare} {f : Buf (Elt F) ℓ} (h : T ⊆ S) :
    (ℓ ↦[S]{q} f : sProp 𝕄) ⊢ iprop((ℓ ↦[T]{q} f) ∗ ((ℓ ↦[T]{q} f) -∗ (ℓ ↦[S]{q} f))) := by
  iintro H
  ihave ⟨H1, H2⟩ := (pointsTo_split_subset h).1 $$ H
  isplitl [H1]; · iexact H1
  iintro H1
  iapply (pointsTo_split_subset h).2
  isplitl [H1] <;> iassumption

theorem runs_bind (c : Dev nD) {α β : Type} (p : PR F α) (k : α → PR F β) (Q : β → sProp 𝕄) :
    runs c (p >>= k) Q = runs c p fun a => runs c (k a) Q := wp_bind _ _ _ p k Q

/-! ## Local copies -/

/-- A copy of the device's own in flight on a semaphore, to deliver `D`. -/
abbrev fl (c : Dev nD) (sm : DmaSem sig) (N : ℕ) (D : sProp 𝕄) : sProp 𝕄 := Flight EC (c : Thread nD τ) (.dma sm) () N D

section Local
variable {cs cs' : Space} {s : Shape} {e : EltTy}

theorem cpStart_spec (c : Dev nD) (src : Memref sig .tc cs s e) (dst : Memref sig .tc cs' s e) (sm : DmaSem sig) (hs hd ht)
    {q : PosShare TreeShare} {fs : Buf (Elt F) (src.view.loc (c : Thread nD τ))} {Sd : Finset (Idx (dst.view.loc (c : Thread nD τ)))}
    {fd : Buf (Elt F) (dst.view.loc (c : Thread nD τ))} (hN0 : 0 < dst.view.dmaCredit) (hSd : dst.view.set ⊆ Sd) (Q : PUnit → sProp 𝕄) :
    iprop((src.view.loc (c : Thread nD τ) ↦[src.view.set]{q} fs) ∗ (dst.view.loc (c : Thread nD τ) ↦[Sd]{fullShare} fd)
        ∗ semVal ((c : Thread nD τ), .dma sm) 0
        ∗ (fl c sm dst.view.dmaCredit iprop((dst.view.loc (c : Thread nD τ) ↦[Sd]{fullShare} dst.view.write (Elt F) fd (src.view.read (Elt F) fs) Finset.univ)
            ∗ (src.view.loc (c : Thread nD τ) ↦[src.view.set]{q} fs)) -∗ Q ⟨⟩))
      ⊢ runs c (cpStart src dst sm hs hd ht) Q := by
  unfold cpStart Prog.lift
  iintro ⟨Hs, Hd, Hv, Hk⟩
  iapply (Transfers.wp_dmaLocal EC 𝒱₀ (c : Thread nD τ) none () dst.view.dmaCredit rfl hN0 hSd) $$ [Hs Hd Hv]
  · isplitl [Hs]; · iexact Hs
    isplitl [Hd] <;> iassumption
  iintro H
  rw [wp_ret]; imodintro
  iapply Hk; iexact H

theorem cpWait_spec (c : Dev nD) {s' : Shape} {e' : EltTy} (src : Memref sig .tc cs s e) (dst : Memref sig .tc cs' s' e') (sm : DmaSem sig) (hs hd)
    {D : sProp 𝕄} {O : CellTallies nD τ sig Unit} (hm : (levAts L lv : sProp 𝕄) ⊢ MayWait (c : Thread nD τ) (.dma sm) () O) (Q : PUnit → sProp 𝕄) :
    iprop(fl c sm dst.view.dmaCredit D ∗ owed c O ∗ levAts L lv
        ∗ ((D ∗ semVal ((c : Thread nD τ), .dma sm) 0 ∗ owed c O) -∗ Q ⟨⟩))
      ⊢ runs c (cpWait src dst sm hs hd) Q := by
  unfold cpWait Prog.lift
  iintro ⟨Hf, ⟨%W, HO⟩, Hl, Hk⟩
  iapply (Transfers.wp_waitLocalO EC 𝒱₀ (c : Thread nD τ) none () rfl) $$ [Hf HO Hl]
  · isplitl [Hf]; · iexact Hf
    isplitl [HO]; · iexact HO
    iapply hm; iexact Hl
  iintro ⟨HD, Hv, HO⟩
  rw [wp_ret]; imodintro
  iapply Hk
  isplitl [HD]; · iexact HD
  isplitl [Hv]; · iexact Hv
  iexists _; iexact HO

end Local

/-! ## Loads and stores -/

theorem load_spec (c : Dev nD) {cs : CoreSpace} {s : Shape} {e : EltTy} {w : Memref sig .tc cs s e} {r : LoadRect s} {hl : w.view.LoadsAt r}
    {S : Finset (Idx (w.view.loc (c : Thread nD τ)))} {q : PosShare TreeShare} {f : Buf (Elt F) (w.view.loc (c : Thread nD τ))}
    (hS : w.view.setOn r.set ⊆ S) (Q : (r.shape.Idx → Elt F e) → sProp 𝕄) :
    iprop((w.view.loc (c : Thread nD τ) ↦[S]{q} f) ∗ ((w.view.loc (c : Thread nD τ) ↦[S]{q} f) -∗ Q (w.view.readAt (Elt F) r f)))
      ⊢ runs c (Prog.lift (.load w r hl)) Q := by
  iintro ⟨H, Hk⟩
  iapply (wp_load 𝒱₀ (c : Thread nD τ) none Set.univ hS) $$ H; iintro H
  rw [wp_ret]; imodintro
  iapply Hk; iexact H

theorem store_spec (c : Dev nD) {cs : CoreSpace} {s : Shape} {e : EltTy} {w : Memref sig .tc cs s e} {r : Rect s} {v : r.shape.Idx → Elt F e}
    {hx : (w.access r).Stores Finset.univ} {hm} {S : Finset (Idx ((w.access r).loc (c : Thread nD τ)))} {f : Buf (Elt F) ((w.access r).loc (c : Thread nD τ))}
    (hS : (w.access r).setOn Finset.univ ⊆ S) (Q : PUnit → sProp 𝕄) :
    iprop(((w.access r).loc (c : Thread nD τ) ↦[S]{fullShare} f)
        ∗ (((w.access r).loc (c : Thread nD τ) ↦[S]{fullShare} (w.access r).write (Elt F) f v Finset.univ) -∗ Q ⟨⟩))
      ⊢ runs c (Prog.lift (.store w r v Finset.univ hx hm)) Q := by
  iintro ⟨H, Hk⟩
  iapply (wp_store 𝒱₀ (c : Thread nD τ) none Set.univ hS) $$ H; iintro H
  rw [wp_ret]; imodintro
  iapply Hk; iexact H

theorem mayWait_zero (c : Dev nD) (sm : SemLoc sig) : (levAts L lv : sProp 𝕄) ⊢ MayWait (c : Thread nD τ) sm () 0 := by
  rw [MayWait_zero]; iintro -; iempintro

/-! ## A staged quarter -/

/-- What staging uses and gives back: `x`, the two narrow buffers, their semaphores, the debts. -/
def stg (m : (ℓ : Loc nD τ sig) → Buf (Elt F) ℓ) (c : Dev nD) (O : CellTallies nD τ sig Unit) : sProp 𝕄 :=
  iprop((((c : Thread nD τ).loc main_arg0) ↦{fullShare} m ((c : Thread nD τ).loc main_arg0))
    ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ semVal ((c : Thread nD τ), .dma cinS) 0 ∗ semVal ((c : Thread nD τ), .dma coutS) 0 ∗ owed c O)

theorem hz : (![0, 0] : Fin 2 → Nat) = fun _ => 0 := funext fun a => by fin_cases a <;> rfl
theorem whole_set (b : Ref sig .tc) : (Memref.whole b).view.set = Finset.univ := View.set_whole _

variable (m : (ℓ : Loc nD τ sig) → Buf (Elt F) ℓ)

theorem read_cf (f : (cc0_scratch0 : Ref sig .tc).ty.Contents (Elt F)) :
    cfM.view.readAt (Elt F) (Rect.unit (s := S512x2048) ![0, 0] S512x2048.size inb_S512x2048_S512x2048_0_0).toLoadRect f = f :=
  Memref.readAt_unit_zero (Elt F) cc0_scratch0 hz _ f
theorem write_cb (f w : (cc0_scratch1 : Ref sig .tc).ty.Contents (Elt F)) :
    (cbM.access (Rect.unit (s := S512x2048) ![0, 0] S512x2048.size inb_S512x2048_S512x2048_0_0)).write (Elt F) f w Finset.univ = w :=
  Memref.write_access_unit_zero_univ (Elt F) cc0_scratch1 hz _ f w

theorem cf_pos : 0 < cfM.view.dmaCredit := View.dmaCredit_pos _ (by decide)
theorem sQ_pos (q hq) : 0 < (sQ q hq).view.dmaCredit := View.dmaCredit_pos _ (by decide)

theorem quarter_spec (c : Dev nD) (o : Fin 2 → ℕ) (h) (q : Fin 3 → ℕ) (hq) (wq) {O : CellTallies nD τ sig Unit}
    (hO : ∀ sm : DmaSem sig, lvl (.dma sm) = 0 → (levAts L lv : sProp 𝕄) ⊢ MayWait (c : Thread nD τ) (.dma sm) () O)
    {Sd : Finset (Idx ((c : Thread nD τ).loc main_v1_2))} {fd : Buf (Elt F) ((c : Thread nD τ).loc main_v1_2)} (hSd : (sQ q hq).view.set ⊆ Sd) (Q : PUnit → sProp 𝕄) :
    iprop(stg m c O ∗ levAts L lv ∗ (((c : Thread nD τ).loc main_v1_2) ↦[Sd]{fullShare} fd)
        ∗ ((stg m c O ∗ (((c : Thread nD τ).loc main_v1_2) ↦[Sd]{fullShare}
            (sQ q hq).view.write (Elt F) fd (qpay ((xQ o h).view.read (Elt F) (m ((c : Thread nD τ).loc main_arg0)))) Finset.univ)) -∗ Q ⟨⟩))
      ⊢ runs c (quarter o h q hq wq) Q := by
  unfold quarter stg
  iintro ⟨⟨Hx, ⟨%f0, H0⟩, ⟨%f1, H1⟩, Hci, Hco, HO⟩, #Hl, Hs, Hk⟩
  ihave ⟨Hxq, Hxb⟩ := (carve (Finset.subset_univ (xQ o h).view.set)) $$ Hx
  rw [runs_bind]
  iapply (cpStart_spec c (xQ o h) cfM cinS (ev _) (ev _) ⟨Or.inl rfl, trivial⟩ cf_pos (Finset.subset_univ _))
  isplitl [Hxq]; · iexact Hxq
  isplitl [H0]; · iexact H0
  isplitl [Hci]; · iexact Hci
  iintro Hf
  rw [runs_bind]
  iapply (cpWait_spec c (xQ o h) cfM cinS (ev _) (ev _) (hO _ rfl))
  isplitl [Hf]; · iexact Hf
  isplitl [HO]; · iexact HO
  isplitr; · iexact Hl
  iintro ⟨⟨H0, Hxq⟩, Hci, HO⟩
  rw [show (cfM.view.write (Elt F) f0 ((xQ o h).view.read (Elt F) (m ((c : Thread nD τ).loc main_arg0))) Finset.univ) = (xQ o h).view.read (Elt F) (m ((c : Thread nD τ).loc main_arg0)) from View.write_whole_univ _ _ _]
  rw [runs_bind]
  iapply (load_spec c (w := cfM) (Finset.subset_univ _))
  isplitl [H0]; · iexact H0
  iintro H0
  rw [read_cf, runs_bind]
  iapply (load_spec c (w := cbM) (Finset.subset_univ _))
  isplitl [H1]; · iexact H1
  iintro H1
  rw [runs_bind]
  iapply (store_spec c (w := cbM) (Finset.subset_univ _))
  isplitl [H1]; · iexact H1
  iintro H1
  rw [write_cb, runs_bind]
  iapply (cpStart_spec c cbM (sQ q hq) coutS (Memref.isWhole_whole cc0_scratch1).wordExact wq ⟨Or.inl rfl, trivial⟩ (sQ_pos q hq) hSd)
  isplitl [H1]; · rw [whole_set]; iexact H1
  isplitl [Hs]; · iexact Hs
  isplitl [Hco]; · iexact Hco
  iintro Hf
  iapply (cpWait_spec c cbM (sQ q hq) coutS (Memref.isWhole_whole cc0_scratch1).wordExact wq (hO _ rfl))
  isplitl [Hf]; · iexact Hf
  isplitl [HO]; · iexact HO
  isplitr; · iexact Hl
  iintro ⟨⟨Hs, H1⟩, Hco, HO⟩
  rw [whole_set]
  iapply Hk
  isplitr [Hs]
  · isplitl [Hxq Hxb]; · iapply Hxb; iexact Hxq
    isplitl [H0]; · iexists _; iexact H0
    isplitl [H1]; · iexists _; iexact H1
    isplitl [Hci]; · iexact Hci
    isplitl [Hco] <;> iassumption
  · iexact Hs

end Cert.A2A

end
-- ==== Proof.Send.lean ====
/-
The steps between devices: meeting at the barrier, staging and sending a half, awaiting what was sent and what lands.
-/
module

public import proofs.«01_k».proof.Proof.Steps

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

local notation "𝕄" => MT nD τ sig Unit (Elt F) ℕ UU ℕ

variable (m : (ℓ : Loc nD τ sig) → Buf (Elt F) ℓ) (K : Dev nD × Fin 13 → ℕ)

/-! ## The barrier -/

theorem add_rev (c : Dev nD) (e : Fin 3) : add (add c (e.val + 1)) ((Fin.rev e).val + 1) = c := by
  rw [add_add]; exact add_four c (by have := e.isLt; rw [Fin.val_rev]; omega)

/-- One signal: device `e + 1` further on may now write its slot here. -/
theorem signal_spec (c n : Dev nD) (e : Fin 3) (l : List (Fin 3)) (hn : n = add c (e.val + 1)) (Q : PUnit → sProp 𝕄) :
    iprop(records m K ∗ owed c (OB c (e :: l)) ∗ dutyTok ER (barC (add c (e.val + 1))) 0 (Fin.rev e)
        ∗ (∃ f, pt c (gW (add c (e.val + 1)) 0) f) ∗ (∃ f, pt c (gW (add c (e.val + 1)) 1) f)
        ∗ (owed c (OB c l) -∗ Q ⟨⟩))
      ⊢ runs c (semSignalWord n barS 1#32) Q := by
  subst hn
  simp only [semSignalWord]
  iintro ⟨#HR, ⟨%W, HO⟩, Ht, Hg0, Hg1, Hk⟩
  ihave ⟨HI, Hr⟩ := (rec_at m K (kB (add c (e.val + 1))) (kcell_B _)) $$ HR
  iapply (Rounds.wp_signal 𝒱₀ ER (rd m) (c : Thread nD τ) none (dst := (add c (e.val + 1) : Thread nD τ)) (κ := K (kB (add c (e.val + 1))))
      (d := Fin.rev e) (by rw [duties_bar]; exact Finset.mem_univ _) rfl () (OB c l) rfl) $$ [HI Hr HO Ht Hg0 Hg1]
  · isplitl [HI]; · iexact HI
    isplitl [HO]; · iexact HO
    isplitl [Ht]; · iexact Ht
    isplitr [Hr]
    · rw [payload_bar]; unfold barPay; rw [add_rev]
      isplitl [Hg0] <;> iassumption
    · iexact Hr
  iintro HO
  rw [wp_ret]; imodintro
  iapply Hk; iexists _; iexact HO

/-- What a device gives the one `e + 1` further on with its signal: that one's slot here. -/
def sigPre (c : Dev nD) (e : Fin 3) : sProp 𝕄 :=
  iprop(dutyTok ER (barC (add c (e.val + 1))) 0 (Fin.rev e)
    ∗ (∃ f, pt c (gW (add c (e.val + 1)) 0) f) ∗ (∃ f, pt c (gW (add c (e.val + 1)) 1) f))

theorem meet_spec (c : Dev nD) (Q : PUnit → sProp 𝕄) :
    iprop(records m K ∗ levAts L lv ∗ owed c (O₀ c)
        ∗ sigPre c 0 ∗ sigPre c 1 ∗ sigPre c 2
        ∗ cred (tallyAt (barC c) () 3) ∗ atPos ER (barC c) 0 ∅ 0
        ∗ ((owed c (OL c [0, 1, 2, 3, 4, 5]) ∗ barPay c 0 ∗ barPay c 1 ∗ barPay c 2 ∗ semVal (barC c) 0) -∗ Q ⟨⟩))
      ⊢ runs c (meet c) Q := by
  unfold meet sigPre
  iintro ⟨#HR, #Hl, HO, ⟨Ht1, Ha1, Hb1⟩, ⟨Ht2, Ha2, Hb2⟩, ⟨Ht3, Ha3, Hb3⟩, HcB, HatB, Hk⟩
  rw [runs_bind]
  iapply (signal_spec m K c _ 0 [1, 2] (Fin.ext (k0_dev1_eq c)))
  isplitr; · iexact HR
  isplitl [HO]; · iexact HO
  isplitl [Ht1]; · iexact Ht1
  isplitl [Ha1]; · iexact Ha1
  isplitl [Hb1]; · iexact Hb1
  iintro HO
  rw [runs_bind]
  iapply (signal_spec m K c _ 1 [2] (Fin.ext (k0_dev2_eq c)))
  isplitr; · iexact HR
  isplitl [HO]; · iexact HO
  isplitl [Ht2]; · iexact Ht2
  isplitl [Ha2]; · iexact Ha2
  isplitl [Hb2]; · iexact Hb2
  iintro HO
  rw [runs_bind]
  iapply (signal_spec m K c _ 2 [] (Fin.ext (k0_dev3_eq c)))
  isplitr; · iexact HR
  isplitl [HO]; · iexact HO
  isplitl [Ht3]; · iexact Ht3
  isplitl [Ha3]; · iexact Ha3
  isplitl [Hb3]; · iexact Hb3
  iintro ⟨%W, HO⟩
  simp only [semWaitWord]
  ihave ⟨#HI, -⟩ := (rec_at m K (kB c) (kcell_B c)) $$ HR
  iapply (Rounds.wp_wait_rest_token 𝒱₀ ER (rd m) (c : Thread nD τ) none (κ := K (kB c))
      (wpE_semWait_eq 𝒱₀ (c : Thread nD τ) none Set.univ) (Set.mem_univ _) () (O := OB c []) (W := W) (R := 0) (m := 0) (T := ∅)
      (by rw [expect_bar]; decide)) $$ [HcB HO HatB]
  · isplitr; · iexact HI
    isplitl [HcB]; · iexact HcB
    isplitl [HO]; · iexact HO
    isplitr; · iapply (mayWait_OL c (.reg barS) [0, 1, 2, 3, 4, 5] (Nat.le_refl 1)); iexact Hl
    iexact HatB
  iintro ⟨HO, HatB, -, Hpay⟩
  ihave ⟨Hp0, Hp1, Hp2⟩ := (Entails.of_eq (rest_bar m c)) $$ Hpay
  imod (Rounds.cell_close ER (rd m) (Set.mem_univ (K (kB c))) (fun h => h) (R := 0 + 1) (duties_later m (barC c))) $$ [HatB] with HzB
  · isplitr; · iexact HI
    iexact HatB
  rw [wp_ret]; imodintro
  iapply Hk
  isplitl [HO]; · iexists _; iexact HO
  isplitl [Hp0]; · iexact Hp0
  isplitl [Hp1]; · iexact Hp1
  isplitl [Hp2] <;> iassumption

/-! ## A half sent -/

/-- A quarter written leaves the other as it was. -/
theorem sQ_write_other {d y y' : ℕ} {h h'} (hy : y + 512 ≤ y') (f : (sM).view.ty.Contents (Elt F)) (w : S512x2048.Idx → Elt F .bf16) :
    (sQ ![d, y, 0] h).view.read (Elt F) ((sQ ![d, y', 0] h').view.write (Elt F) f w Finset.univ) = (sQ ![d, y, 0] h).view.read (Elt F) f := by
  have hd : Disjoint (sQ ![d, y, 0] h).view.set (sQ ![d, y', 0] h').view.set := by
    rw [sQ_set, sQ_set]; exact Rect.unit_disjoint 1 (.inl hy)
  exact View.read_congr fun i hi => View.write_of_not_mem _ _ _ (Finset.disjoint_left.mp hd hi)

/-- The two quarters of a half written are the half sent. -/
theorem half_read (s t : Dev nD) (d : Fin 3) (h : Fin 2) {h₁ h₂ k₁ k₂} (fd : (sM).view.ty.Contents (Elt F)) :
    (sW d h).view.read (Elt F) ((sQ ![d.val, 1024 * h.val + 512, 0] k₂).view.write (Elt F)
      ((sQ ![d.val, 1024 * h.val, 0] k₁).view.write (Elt F) fd
        (qpay ((xQ ![2048 * t.val + 1024 * h.val, 0] h₁).view.read (Elt F) (m ((s : Thread nD τ).loc main_arg0)))) Finset.univ)
      (qpay ((xQ ![2048 * t.val + 1024 * h.val + 512, 0] h₂).view.read (Elt F) (m ((s : Thread nD τ).loc main_arg0)))) Finset.univ)
      = XS m s t h := by
  refine sH_read _ _ (h₁ := k₁) (h₂ := k₂) (fun i => ?_) (fun i => ?_)
  · rw [sQ_write_other (Nat.le_refl _), View.read_write_univ]
    exact qpay_XH (y := 0) _ (Nat.add_zero _).symm _ i
  · rw [View.read_write_univ]
    exact qpay_XH (y := 512) _ rfl _ i

/-- What a transfer of a half leaves on its target. -/
theorem recvPay_of (c : Dev nD) (e : Fin 6) (w : S1024x2048.Idx → Elt F .bf16) (hw : w = XS m c (tgt c e) (lo e))
    (fg : Buf (Elt F) ((gW c (lo e)).view.loc (tgt c e : Thread nD τ))) :
    (pt (tgt c e) (gW c (lo e)) ((gW c (lo e)).view.write (Elt F) fg w Finset.univ) : sProp 𝕄) ⊢ recvPay m (tgt c e) e := by
  unfold recvPay owns
  rw [origin_tgt, ← hw]
  iintro H; iexists _
  isplitr; · ipureintro; exact View.read_write_univ (v := (gW c (lo e)).view) fg w
  iexact H

theorem send_spec (c : Dev nD) (e : Fin 6) (l : List (Fin 6)) (hq hg wq wg)
    (fs : Buf (Elt F) ((c : Thread nD τ).loc main_v1_2)) (hw : (sW (hi e) (lo e)).view.read (Elt F) fs = XS m c (tgt c e) (lo e))
    {fg : Buf (Elt F) ((gW c (lo e)).view.loc (tgt c e : Thread nD τ))} (Q : PUnit → sProp 𝕄) :
    iprop(records m K ∗ pt c (sW (hi e) (lo e)) fs ∗ pt (tgt c e) (gW c (lo e)) fg
        ∗ dutyTok ER (sendC c e) 0 0 ∗ dutyTok ER (recvC (tgt c e) e) 0 0 ∗ owed c (OL c (e :: l))
        ∗ ((owed c (OL c l) ∗ cred (tallyAt (sendC c e) () NH)) -∗ Q ⟨⟩))
      ⊢ runs c (send (F := F) (tgt c e) ![(hi e).val, 1024 * (lo e).val, 0] hq ![c.val, 1024 * (lo e).val, 0] hg (sendD e) (recvD e) wq wg) Q := by
  unfold send Prog.lift
  iintro ⟨#HR, Hs, Hg, HtS, HtR, ⟨%W, HO⟩, Hk⟩
  ihave ⟨HIs, Hrs⟩ := (rec_at m K (kS c e) (kcell_S c e)) $$ HR
  ihave ⟨HIr, Hrr⟩ := (rec_at m K (kR (tgt c e) e) (kcell_R (tgt c e) e)) $$ HR
  iapply (Rounds.wp_send_pointsTo 𝒱₀ ER (rd m) (c : Thread nD τ) none (c' := (tgt c e : Thread nD τ)) (κ₁ := K (kS c e)) (κ₂ := K (kR (tgt c e) e))
    (src := sW (hi e) (lo e)) (dst := gW c (lo e)) (fs := fs) (fd := fg)
    (r₁ := 0) (r₂ := 0) (d₁ := 0) (d₂ := 0)
    (by rw [duties_send]; exact Finset.mem_singleton_self _) (by rw [duties_recv]; exact Finset.mem_singleton_self _)
    () () NH rfl rfl rfl (OL c l) rfl (W := W)
    (by rw [payload_send]; unfold sendPay; iintro H; iexists _; iexact H)
    (by rw [payload_recv]; exact recvPay_of m c e _ hw fg)) $$ [HIs Hrs HIr Hrr Hs Hg HO HtS HtR]
  · isplitl [HIs]; · iexact HIs
    isplitl [HIr]; · iexact HIr
    isplitl [Hs]; · iexact Hs
    isplitl [Hg]; · iexact Hg
    isplitl [HO]; · iexact HO
    isplitl [HtS]; · iexact HtS
    isplitl [Hrs]; · iexact Hrs
    isplitl [HtR] <;> iassumption
  iintro ⟨Hc, HO⟩
  rw [wp_ret]; imodintro
  iapply Hk
  isplitr [Hc]
  · iexists _; iexact HO
  · iexact Hc

theorem half_spec (c n : Dev nD) (e : Fin 6) (l : List (Fin 6)) (o₁ h₁ o₂ h₂ q₁ hq₁ wq₁ q₂ hq₂ wq₂ hq wq g hg wg sd rv)
    (hn : n = tgt c e) (ho₁ : o₁ = ![2048 * (tgt c e).val + 1024 * (lo e).val, 0]) (ho₂ : o₂ = ![2048 * (tgt c e).val + 1024 * (lo e).val + 512, 0])
    (e₁ : q₁ = ![(hi e).val, 1024 * (lo e).val, 0]) (e₂ : q₂ = ![(hi e).val, 1024 * (lo e).val + 512, 0])
    (eg : g = ![c.val, 1024 * (lo e).val, 0]) (es : sd = sendD e) (er : rv = recvD e) (Q : PUnit → sProp 𝕄) :
    iprop(records m K ∗ levAts L lv ∗ stg m c (OL c (e :: l)) ∗ (∃ f, pt c (sW (hi e) (lo e)) f) ∗ (∃ f, pt (tgt c e) (gW c (lo e)) f)
        ∗ dutyTok ER (sendC c e) 0 0 ∗ dutyTok ER (recvC (tgt c e) e) 0 0
        ∗ ((stg m c (OL c l) ∗ cred (tallyAt (sendC c e) () NH)) -∗ Q ⟨⟩))
      ⊢ runs c (half c n o₁ h₁ o₂ h₂ q₁ hq₁ wq₁ q₂ hq₂ wq₂ hq wq g hg wg sd rv) Q := by
  subst hn ho₁ ho₂ e₁ e₂ eg es er
  unfold half
  iintro ⟨#HR, #Hl, Hst, ⟨%fs, Hs⟩, ⟨%fg, Hg⟩, HtS, HtR, Hk⟩
  have hO : ∀ sm : DmaSem sig, lvl (.dma sm) = 0 → (levAts L lv : sProp 𝕄) ⊢ MayWait (c : Thread nD τ) (.dma sm) () (OL c (e :: l)) :=
    fun sm h => mayWait_OL c _ _ (by omega)
  rw [runs_bind]
  iapply (quarter_spec m c _ h₁ _ hq₁ _ hO (sQ_sub (h := sO_inb (hi e) (lo e)) (Nat.le_refl _) (by omega)))
  isplitl [Hst]; · iexact Hst
  isplitr; · iexact Hl
  isplitl [Hs]; · iexact Hs
  iintro ⟨Hst, Hs⟩
  rw [runs_bind]
  iapply (quarter_spec m c _ h₂ _ hq₂ _ hO (sQ_sub (h := sO_inb (hi e) (lo e)) (by omega) (Nat.le_refl _)))
  isplitl [Hst]; · iexact Hst
  isplitr; · iexact Hl
  isplitl [Hs]; · iexact Hs
  unfold stg
  iintro ⟨⟨Hx, H0, H1, Hci, Hco, HO⟩, Hs⟩
  iapply (send_spec m K c e l hq hg _ _ _ (half_read m c (tgt c e) (hi e) (lo e) (h₁ := h₁) (h₂ := h₂) (k₁ := hq₁) (k₂ := hq₂) fs))
  isplitr; · iexact HR
  isplitl [Hs]; · iexact Hs
  isplitl [Hg]; · iexact Hg
  isplitl [HtS]; · iexact HtS
  isplitl [HtR]; · iexact HtR
  isplitl [HO]; · iexact HO
  iintro ⟨HO, Hc⟩
  iapply Hk
  isplitr [Hc]
  · isplitl [Hx]; · iexact Hx
    isplitl [H0]; · iexact H0
    isplitl [H1]; · iexact H1
    isplitl [Hci]; · iexact Hci
    isplitl [Hco] <;> iassumption
  · iexact Hc

/-- What sending a half uses. -/
def rowPre (c : Dev nD) (e : Fin 6) : sProp 𝕄 :=
  iprop((∃ f, pt c (sW (hi e) (lo e)) f) ∗ dutyTok ER (sendC c e) 0 0 ∗ dutyTok ER (recvC (tgt c e) e) 0 0)
/-- What awaiting one uses, where it lands and where it came from. -/
def rowIn (c : Dev nD) (e : Fin 6) : sProp 𝕄 := iprop(cred (tallyAt (recvC c e) () NH) ∗ atPos ER (recvC c e) 0 ∅ 0)
def rowOut (c : Dev nD) (e : Fin 6) : sProp 𝕄 := iprop(cred (tallyAt (sendC c e) () NH) ∗ atPos ER (sendC c e) 0 ∅ 0)

set_option maxHeartbeats 2000000 in
theorem halves_spec (c : Dev nD) (Q : PUnit → sProp 𝕄) :
    iprop(records m K ∗ levAts L lv ∗ stg m c (OL c [0, 1, 2, 3, 4, 5]) ∗ barPay c 0 ∗ barPay c 1 ∗ barPay c 2
        ∗ rowPre c 0 ∗ rowPre c 1 ∗ rowPre c 2 ∗ rowPre c 3 ∗ rowPre c 4 ∗ rowPre c 5
        ∗ ((stg m c 0 ∗ cred (tallyAt (sendC c 0) () NH) ∗ cred (tallyAt (sendC c 1) () NH) ∗ cred (tallyAt (sendC c 2) () NH)
            ∗ cred (tallyAt (sendC c 3) () NH) ∗ cred (tallyAt (sendC c 4) () NH) ∗ cred (tallyAt (sendC c 5) () NH)) -∗ Q ⟨⟩))
      ⊢ runs c (halves c) Q := by
  unfold halves barPay rowPre
  iintro ⟨#HR, #Hl, Hst, ⟨Hg0, Hg1⟩, ⟨Hg2, Hg3⟩, ⟨Hg4, Hg5⟩, ⟨Hs0, Ha0, Hb0⟩, ⟨Hs1, Ha1, Hb1⟩, ⟨Hs2, Ha2, Hb2⟩, ⟨Hs3, Ha3, Hb3⟩, ⟨Hs4, Ha4, Hb4⟩, ⟨Hs5, Ha5, Hb5⟩, Hk⟩
  rw [runs_bind]
  iapply (half_spec m K c _ 0 [1, 2, 3, 4, 5] _ _ _ _ _ _ _ _ _ _ _ _ _ _ _ _ _ (Fin.ext (k0_dev4_eq c)) (k0_off1_eq c 0 0) (k0_off1_eq c 0 1)
    rfl rfl (k0_off2_eq c) rfl rfl)
  isplitr; · iexact HR
  isplitr; · iexact Hl
  isplitl [Hst]; · iexact Hst
  isplitl [Hs0]; · iexact Hs0
  isplitl [Hg0]; · iexact Hg0
  isplitl [Ha0]; · iexact Ha0
  isplitl [Hb0]; · iexact Hb0
  iintro ⟨Hst, Hc0⟩
  rw [runs_bind]
  iapply (half_spec m K c _ 1 [2, 3, 4, 5] _ _ _ _ _ _ _ _ _ _ _ _ _ _ _ _ _ (Fin.ext (k0_dev5_eq c)) (k0_off1_eq c 0 2) (k0_off1_eq c 0 3)
    rfl rfl (k0_off3_eq c) rfl rfl)
  isplitr; · iexact HR
  isplitr; · iexact Hl
  isplitl [Hst]; · iexact Hst
  isplitl [Hs1]; · iexact Hs1
  isplitl [Hg1]; · iexact Hg1
  isplitl [Ha1]; · iexact Ha1
  isplitl [Hb1]; · iexact Hb1
  iintro ⟨Hst, Hc1⟩
  rw [runs_bind]
  iapply (half_spec m K c _ 2 [3, 4, 5] _ _ _ _ _ _ _ _ _ _ _ _ _ _ _ _ _ (Fin.ext (k0_dev6_eq c)) (k0_off1_eq c 1 0) (k0_off1_eq c 1 1)
    rfl rfl (k0_off2_eq c) rfl rfl)
  isplitr; · iexact HR
  isplitr; · iexact Hl
  isplitl [Hst]; · iexact Hst
  isplitl [Hs2]; · iexact Hs2
  isplitl [Hg2]; · iexact Hg2
  isplitl [Ha2]; · iexact Ha2
  isplitl [Hb2]; · iexact Hb2
  iintro ⟨Hst, Hc2⟩
  rw [runs_bind]
  iapply (half_spec m K c _ 3 [4, 5] _ _ _ _ _ _ _ _ _ _ _ _ _ _ _ _ _ (Fin.ext (k0_dev7_eq c)) (k0_off1_eq c 1 2) (k0_off1_eq c 1 3)
    rfl rfl (k0_off3_eq c) rfl rfl)
  isplitr; · iexact HR
  isplitr; · iexact Hl
  isplitl [Hst]; · iexact Hst
  isplitl [Hs3]; · iexact Hs3
  isplitl [Hg3]; · iexact Hg3
  isplitl [Ha3]; · iexact Ha3
  isplitl [Hb3]; · iexact Hb3
  iintro ⟨Hst, Hc3⟩
  rw [runs_bind]
  iapply (half_spec m K c _ 4 [5] _ _ _ _ _ _ _ _ _ _ _ _ _ _ _ _ _ (Fin.ext (k0_dev8_eq c)) (k0_off1_eq c 2 0) (k0_off1_eq c 2 1)
    rfl rfl (k0_off2_eq c) rfl rfl)
  isplitr; · iexact HR
  isplitr; · iexact Hl
  isplitl [Hst]; · iexact Hst
  isplitl [Hs4]; · iexact Hs4
  isplitl [Hg4]; · iexact Hg4
  isplitl [Ha4]; · iexact Ha4
  isplitl [Hb4]; · iexact Hb4
  iintro ⟨Hst, Hc4⟩
  iapply (half_spec m K c _ 5 [] _ _ _ _ _ _ _ _ _ _ _ _ _ _ _ _ _ (Fin.ext (k0_dev9_eq c)) (k0_off1_eq c 2 2) (k0_off1_eq c 2 3)
    rfl rfl (k0_off3_eq c) rfl rfl)
  isplitr; · iexact HR
  isplitr; · iexact Hl
  isplitl [Hst]; · iexact Hst
  isplitl [Hs5]; · iexact Hs5
  isplitl [Hg5]; · iexact Hg5
  isplitl [Ha5]; · iexact Ha5
  isplitl [Hb5]; · iexact Hb5
  iintro ⟨Hst, Hc5⟩
  iapply Hk
  isplitl [Hst]; · iexact Hst
  isplitl [Hc0]; · iexact Hc0
  isplitl [Hc1]; · iexact Hc1
  isplitl [Hc2]; · iexact Hc2
  isplitl [Hc3]; · iexact Hc3
  isplitl [Hc4] <;> iassumption

/-! ## What lands, and what was sent, awaited -/

theorem recv_spec (c : Dev nD) (e : Fin 6) (q hq wq g hg wg sm) (es : sm = recvD e) (Q : PUnit → sProp 𝕄) :
    iprop(records m K ∗ owed c 0 ∗ cred (tallyAt (recvC c e) () NH) ∗ atPos ER (recvC c e) 0 ∅ 0
        ∗ ((owed c 0 ∗ recvPay m c e ∗ semVal (recvC c e) 0) -∗ Q ⟨⟩))
      ⊢ runs c (recv q hq wq g hg wg sm) Q := by
  subst es
  unfold recv cpWait Prog.lift
  iintro ⟨#HR, ⟨%W, HO⟩, Hc, Hat, Hk⟩
  ihave ⟨#HI, -⟩ := (rec_at m K (kR c e) (kcell_R c e)) $$ HR
  iapply (Rounds.wp_wait_rest_token 𝒱₀ ER (rd m) (c : Thread nD τ) none (κ := K (kR c e))
      (wpE_waitDma2_eq 𝒱₀ (c : Thread nD τ) none Set.univ) (Set.mem_univ _) () (O := 0) (W := W) (R := 0) (m := 0) (T := ∅)
      (by rw [Nat.zero_add, expect_recv]; rfl)) $$ [Hc HO Hat]
  · isplitr; · iexact HI
    isplitl [Hc]; · iexact Hc
    isplitl [HO]; · iexact HO
    isplitr; · rw [MayWait_zero]; iempintro
    iexact Hat
  iintro ⟨HO, Hat, -, Hpay⟩
  imod (Rounds.cell_close ER (rd m) (Set.mem_univ (K (kR c e))) (fun h => h) (R := 0 + 1) (duties_later m (recvC c e))) $$ [Hat] with Hz
  · isplitr; · iexact HI
    iexact Hat
  rw [wp_ret]; imodintro
  iapply Hk
  isplitl [HO]; · iexists _; iexact HO
  isplitl [Hpay]; · iapply (Entails.of_eq (rest_recv m c e)); iexact Hpay
  iexact Hz

theorem sent_spec (c : Dev nD) (e : Fin 6) (g hg wg q hq wq sm) (es : sm = sendD e) (Q : PUnit → sProp 𝕄) :
    iprop(records m K ∗ owed c 0 ∗ cred (tallyAt (sendC c e) () NH) ∗ atPos ER (sendC c e) 0 ∅ 0
        ∗ ((owed c 0 ∗ semVal (sendC c e) 0) -∗ Q ⟨⟩))
      ⊢ runs c (sent g hg wg q hq wq sm) Q := by
  subst es
  unfold sent cpWait Prog.lift
  iintro ⟨#HR, ⟨%W, HO⟩, Hc, Hat, Hk⟩
  ihave ⟨#HI, -⟩ := (rec_at m K (kS c e) (kcell_S c e)) $$ HR
  iapply (Rounds.wp_wait_rest_token 𝒱₀ ER (rd m) (c : Thread nD τ) none (κ := K (kS c e))
      (wpE_waitDma2_eq 𝒱₀ (c : Thread nD τ) none Set.univ) (Set.mem_univ _) () (O := 0) (W := W) (R := 0) (m := 0) (T := ∅)
      (by rw [Nat.zero_add, expect_send]; rfl)) $$ [Hc HO Hat]
  · isplitr; · iexact HI
    isplitl [Hc]; · iexact Hc
    isplitl [HO]; · iexact HO
    isplitr; · rw [MayWait_zero]; iempintro
    iexact Hat
  iintro ⟨HO, Hat, -, -⟩
  imod (Rounds.cell_close ER (rd m) (Set.mem_univ (K (kS c e))) (fun h => h) (R := 0 + 1) (duties_later m (sendC c e))) $$ [Hat] with Hz
  · isplitr; · iexact HI
    iexact Hat
  rw [wp_ret]; imodintro
  iapply Hk
  isplitl [HO]; · iexists _; iexact HO
  iexact Hz

end Cert.A2A

end
-- ==== Proof.Loops.lean ====
/-
The loops: the weights' tiles brought in two ahead, the accumulator's tiles written in turn.
-/
module

public import proofs.«01_k».proof.Proof.Steps

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

local notation "𝕄" => MT nD τ sig Unit (Elt F) ℕ UU ℕ

variable (m : (ℓ : Loc nD τ sig) → Buf (Elt F) ℓ)

theorem runs_pure (c : Dev nD) {α : Type} (a : α) (Q : α → sProp 𝕄) : Q a ⊢ runs c (pure a : PR F α) Q := by
  show Q a ⊢ runs c (.ret a) Q
  unfold runs; rw [wp_ret]
  iintro H; imodintro; iexact H

/-! ## What a trip computes -/

/-- A tile's product. -/
def payA (x : Vec F S1024x2048 .f32) (w : Vec F S2048x512 .f32) : FVec F S1024x512 .f32 :=
  matmul dot_S1024x2048_S2048x512_S1024x512_1_0_0_1_n_n none x w (constant S1024x512 .f32 0x00000000#32)
/-- A tile with a product added, its factors narrow. -/
def payB (x : Vec F S1024x2048 .bf16) (w : Vec F S2048x512 .f32) (a : Vec F S1024x512 .f32) : FVec F S1024x512 .f32 :=
  addf a (matmul dot_S1024x2048_S2048x512_S1024x512_1_0_0_1_n_n none x (truncf .bf16 w bitsLt_bf16_f32) (constant S1024x512 .f32 0x00000000#32))
/-- A tile activated. -/
def payS (a : Vec F S1024x512 .f32) : FVec F S1024x512 .f32 :=
  mulf a (divf (broadcast S1024x512 (Scalar.ofBits .f32 0x3F800000#32))
    (addf (broadcast S1024x512 (Scalar.ofBits .f32 0x3F800000#32)) (exp (subf (broadcast S1024x512 (Scalar.ofBits .f32 0x00000000#32)) a))))

theorem pay15_eq (x : Vec F S1024x2048 .f32) (w : Vec F S1x2048x512 .f32) :
    k0_pay15 x w = payA x (shapeCast S2048x512 w shapeCasts_S1x2048x512_S2048x512) := shapeCast_self _ _
theorem pay17_eq (x : Vec F S1024x2048 .bf16) (w : Vec F S1x2048x512 .f32) (a : Vec F S1024x512 .f32) :
    k0_pay17 x w a = payB x (shapeCast S2048x512 w shapeCasts_S1x2048x512_S2048x512) a := shapeCast_self _ _
theorem pay22_eq (a : Vec F S1024x512 .f32) : k0_pay22 a = payS a := shapeCast_self _ _

/-! ## The tiles of the weights -/

theorem wO_inb (s : Dev nD) (n : Fin 8) : ∀ a, (![2048 * s.val, 512 * n.val] : Fin 2 → ℕ) a + S2048x512.size a ≤ S8192x4096.size a := by
  have h1 : s.val < 4 := s.isLt
  have h2 := n.isLt
  intro a; fin_cases a <;> simp <;> omega
/-- Tile `n` of the weights' rows of device `s`. -/
abbrev wW (s : Dev nD) (n : Fin 8) : Memref sig .tc .hbm S2048x512 .f32 := wT ![2048 * s.val, 512 * n.val] (wO_inb s n)
/-- What it holds on device `c`. -/
def WV (c s : Dev nD) (n : Fin 8) : Vec F S2048x512 .f32 := (wW s n).view.read (Elt F) (m ((c : Thread nD τ).loc main_arg1))

/-- Each slot's copies read through a share of the weights. -/
def wq (p : Fin 2) : PosShare TreeShare := if p = 0 then fullShare.left else fullShare.right
def wP (c : Dev nD) (p : Fin 2) : sProp 𝕄 := ((c : Thread nD τ).loc main_arg1) ↦{wq p} m ((c : Thread nD τ).loc main_arg1)

theorem wP_split (c : Dev nD) : (((c : Thread nD τ).loc main_arg1) ↦{fullShare} m ((c : Thread nD τ).loc main_arg1) : sProp 𝕄) ⊣⊢ iprop(wP m c 0 ∗ wP m c 1) :=
  pointsTo_share (PosShare.mem_left_op_right fullShare)

/-- A slot with nothing under way. -/
def idle (c : Dev nD) (p : Fin 2) : sProp 𝕄 := iprop((∃ f, pt c (pW p) f) ∗ wP m c p ∗ semVal ((c : Thread nD τ), .dma (wS p)) 0)
/-- A slot with tile `n` of the rows of device `s` under way. -/
def pend (c : Dev nD) (p : Fin 2) (s : Dev nD) (n : Fin 8) : sProp 𝕄 :=
  iprop(fl c (wS p) (pW p).view.dmaCredit iprop(owns (c : Thread nD τ) (pW p) fullShare (WV m c s n)
      ∗ ((wW s n).view.loc (c : Thread nD τ) ↦[(wW s n).view.set]{wq p} m ((c : Thread nD τ).loc main_arg1)))
    ∗ (((wW s n).view.loc (c : Thread nD τ) ↦[(wW s n).view.set]{wq p} m ((c : Thread nD τ).loc main_arg1)) -∗ wP m c p))

theorem pW_pos (p : Fin 2) : 0 < (pW p).view.dmaCredit := View.dmaCredit_pos _ (by decide)

theorem wStart_spec (c : Dev nD) (p : Fin 2) (s : Dev nD) (n : Fin 8) (o h q hq sm) (eo : o = ![2048 * s.val, 512 * n.val]) (eq : q = ![p.val, 0, 0])
    (es : sm = wS p) (Q : PUnit → sProp 𝕄) :
    iprop(idle m c p ∗ (pend m c p s n -∗ Q ⟨⟩)) ⊢ runs c (wStart o h q hq sm) Q := by
  subst eo eq es
  unfold wStart idle wP
  iintro ⟨⟨⟨%f, Hp⟩, Hw, Hv⟩, Hk⟩
  ihave ⟨Hww, Hwb⟩ := (carve (Finset.subset_univ (wW s n).view.set)) $$ Hw
  iapply (cpStart_spec c (wW s n) (pW p) (wS p) (ev _) (ev _) ⟨Or.inl rfl, trivial⟩ (pW_pos p) (Finset.Subset.refl _))
  isplitl [Hww]; · iexact Hww
  isplitl [Hp]; · iexact Hp
  isplitl [Hv]; · iexact Hv
  iintro Hf
  iapply Hk
  unfold pend wP
  isplitl [Hf]
  · iapply (Transfers.Flight_mono EC ?_) $$ Hf
    iintro ⟨H1, H2⟩
    isplitl [H1]
    · unfold owns; iexists _
      isplitr; · ipureintro; exact View.read_write_univ (v := (pW p).view) f _
      iexact H1
    · iexact H2
  · iexact Hwb

theorem wAwait_spec (c : Dev nD) (p : Fin 2) (s : Dev nD) (n : Fin 8) (o h q hq sm h1 h2) (eq : q = ![p.val, 0, 0]) (es : sm = wS p) (Q : PUnit → sProp 𝕄) :
    iprop(pend m c p s n ∗ owed c 0 ∗ levAts L lv
        ∗ ((owns (c : Thread nD τ) (pW p) fullShare (WV m c s n) ∗ wP m c p ∗ semVal ((c : Thread nD τ), .dma (wS p)) 0 ∗ owed c 0) -∗ Q ⟨⟩))
      ⊢ runs c (cpWait (wT o h) (slot q hq) sm h1 h2) Q := by
  subst eq es
  unfold pend
  iintro ⟨⟨Hf, Hb⟩, HO, Hl, Hk⟩
  iapply (cpWait_spec c (wT o h) (pW p) (wS p) h1 h2 (mayWait_zero c _))
  isplitl [Hf]; · iexact Hf
  isplitl [HO]; · iexact HO
  isplitl [Hl]; · iexact Hl
  iintro ⟨⟨Hp, Hw⟩, Hv, HO⟩
  iapply Hk
  isplitl [Hp]; · iexact Hp
  isplitl [Hw Hb]; · iapply Hb; iexact Hw
  isplitl [Hv] <;> iassumption

theorem load_set (b : Ref sig .tc) (r : Rect b.ty.shape) : (Memref.whole b).view.setOn r.toLoadRect.set = r.set := by
  refine (?_ : _ = ((View.whole b).slice r).set).trans (View.set_slice_whole b r)
  rw [View.set_slice]; rfl

/-- A slot's load reads what the slot holds. -/
theorem wLoad_spec (c : Dev nD) (p : Fin 2) (q hq hl) (eq : q = ![p.val, 0, 0]) (W : Vec F S2048x512 .f32) (Q : Vec F S1x2048x512 .f32 → sProp 𝕄) :
    iprop(owns (c : Thread nD τ) (pW p) fullShare W
        ∗ (∀ v : Vec F S1x2048x512 .f32, ⌜shapeCast S2048x512 v shapeCasts_S1x2048x512_S2048x512 = W⌝ -∗ (∃ f, pt c (pW p) f) -∗ Q v))
      ⊢ runs c (Prog.lift (.load wbM (wR q hq).toLoadRect hl)) Q := by
  subst eq
  unfold owns
  iintro ⟨⟨%f, %hf, Hp⟩, Hk⟩
  iapply (load_spec c (w := wbM) (S := (pW p).view.set) (f := f) (by rw [slot_set]; exact (load_set cc0_scratch4 _).subset))
  isplitl [Hp]; · iexact Hp
  iintro Hp
  iapply Hk
  · ipureintro; exact hf
  · iexists f; iexact Hp

/-! ## The accumulator -/

theorem tO_inb (h : Fin 2) (n : Fin 8) : ∀ a, (![1024 * h.val, 512 * n.val] : Fin 2 → ℕ) a + S1024x512.size a ≤ S2048x4096.size a := by
  have h1 := h.isLt
  have h2 := n.isLt
  intro a; fin_cases a <;> simp <;> omega

/-- Half `h` of the accumulator, its eight tiles being `A`. -/
def accR (c : Dev nD) (h : Fin 2) (A : Fin 8 → Vec F S1024x512 .f32) : sProp 𝕄 :=
  iprop(∃ f : Buf (Elt F) ((c : Thread nD τ).loc cc0_scratch5),
    ⌜∀ n, (aM.access (aR ![1024 * h.val, 512 * n.val] (tO_inb h n))).read (Elt F) f = A n⌝ ∗ pt c (aW h) f)

theorem accLoad_spec (c : Dev nD) (h : Fin 2) (n : Fin 8) (A : Fin 8 → Vec F S1024x512 .f32) (o ho hl) (eo : o = ![1024 * h.val, 512 * n.val])
    (Q : Vec F S1024x512 .f32 → sProp 𝕄) :
    iprop(accR c h A ∗ (accR c h A -∗ Q (A n))) ⊢ runs c (Prog.lift (.load aM (aR o ho).toLoadRect hl)) Q := by
  subst eo
  unfold accR
  iintro ⟨⟨%f, %hf, Hp⟩, Hk⟩
  have hn : aM.view.readAt (Elt F) (aR ![1024 * h.val, 512 * n.val] ho).toLoadRect f = A n := hf n
  rw [← hn]
  iapply (load_spec c (w := aM) (S := (aW h).view.set) (f := f) (by rw [load_set, ← aR_set]; exact aR_sub))
  isplitl [Hp]; · iexact Hp
  iintro Hp
  iapply Hk
  iexists f
  isplitr; · ipureintro; exact hf
  iexact Hp

theorem accStore_spec (c : Dev nD) (h : Fin 2) (n : Fin 8) (A : Fin 8 → Vec F S1024x512 .f32) (o ho) (eo : o = ![1024 * h.val, 512 * n.val])
    (v : Vec F S1024x512 .f32) {hx hm} (Q : PUnit → sProp 𝕄) :
    iprop(accR c h A ∗ (accR c h (Function.update A n v) -∗ Q ⟨⟩)) ⊢ runs c (Prog.lift (.store aM (aR o ho) v Finset.univ hx hm)) Q := by
  subst eo
  unfold accR
  iintro ⟨⟨%f, %hf, Hp⟩, Hk⟩
  iapply (store_spec c (w := aM) (r := aR ![1024 * h.val, 512 * n.val] ho) (S := (aW h).view.set) (f := f) aR_sub)
  isplitl [Hp]; · iexact Hp
  iintro Hp
  iapply Hk
  iexists (aM.access (aR ![1024 * h.val, 512 * n.val] ho)).write (Elt F) f v Finset.univ
  isplitr
  · ipureintro
    intro k
    by_cases hk : k = n
    · subst hk; rw [Function.update_self]; exact View.read_write_univ (v := aM.access (aR ![1024 * h.val, 512 * k.val] ho)) f v
    · rw [Function.update_of_ne hk, ← hf k]
      refine View.read_slice_write_slice_of_disjoint _ _ _ _ _ ?_
      have hne : k.val ≠ n.val := fun e => hk (Fin.ext e)
      refine Finset.disjoint_of_subset_left (aR_set ![1024 * h.val, 512 * k.val] (tO_inb h k)).subset
        (Finset.disjoint_of_subset_right (aR_set ![1024 * h.val, 512 * n.val] (tO_inb h n)).subset (Rect.unit_disjoint 1 ?_))
      show 512 * k.val + 512 ≤ 512 * n.val ∨ 512 * n.val + 512 ≤ 512 * k.val
      omega
  iexact Hp

/-- The tiles after `k` trips. -/
def after (new old : Fin 8 → Vec F S1024x512 .f32) (k : ℕ) (n : Fin 8) : Vec F S1024x512 .f32 := if n.val < k then new n else old n

theorem after_zero (new old : Fin 8 → Vec F S1024x512 .f32) : after new old 0 = old := funext fun n => if_neg (Nat.not_lt_zero _)
theorem after_all (new old : Fin 8 → Vec F S1024x512 .f32) : after new old 8 = new := funext fun n => if_pos n.isLt
theorem after_at (new old : Fin 8 → Vec F S1024x512 .f32) (k : Fin 8) : after new old k.val k = old k := if_neg (Nat.lt_irrefl _)
theorem after_succ (new old : Fin 8 → Vec F S1024x512 .f32) (k : Fin 8) :
    Function.update (after new old k.val) k (new k) = after new old (k.val + 1) := by
  funext n
  unfold after
  by_cases hn : n = k
  · subst hn; rw [Function.update_self, if_pos (Nat.lt_succ_self _)]
  · have : n.val ≠ k.val := fun e => hn (Fin.ext e)
    rw [Function.update_of_ne hn]
    by_cases h : n.val < k.val
    · rw [if_pos h, if_pos (by omega)]
    · rw [if_neg h, if_neg (by omega)]

/-! ## The trips -/

/-- The slot tile `k` uses. -/
def par (k : ℕ) : Fin 2 := ⟨k % 2, Nat.mod_lt _ (by decide)⟩
/-- Its slot before tile `k` is used: the tile under way, none after the last. -/
def slotSt (c s : Dev nD) (k : ℕ) : sProp 𝕄 := if h : k < 8 then pend m c (par k) s ⟨k, h⟩ else idle m c (par k)

theorem slotSt_lt (c s : Dev nD) (k : Fin 8) : slotSt m c s k.val = pend m c (par k.val) s k := dif_pos k.isLt
theorem slotSt_0 (c s : Dev nD) : slotSt m c s 0 = pend m c 0 s 0 := dif_pos (by decide)
theorem slotSt_1 (c s : Dev nD) : slotSt m c s (0 + 1) = pend m c 1 s 1 := dif_pos (by decide)
theorem slotSt_8 (c s : Dev nD) : slotSt m c s 8 = idle m c 0 := dif_neg (by decide)
theorem slotSt_9 (c s : Dev nD) : slotSt m c s (8 + 1) = idle m c 1 := dif_neg (by decide)
theorem slotSt_ge (c s : Dev nD) (k : ℕ) (h : ¬k + 2 < 8) : slotSt m c s (k + 2) = idle m c (par k) := by
  unfold slotSt; rw [dif_neg h]; exact congrArg _ (Fin.ext (Nat.add_mod_right k 2))

/-- What starts the tile two on, in a trip that does. -/
def Starts (c s : Dev nD) (k : Fin 8) (C : Prop) (nx : C → PR F PUnit) : Prop :=
  (C ↔ k.val + 2 < 8) ∧ ∀ (h : C) (Q : PUnit → sProp 𝕄), iprop(idle m c (par k.val) ∗ (slotSt m c s (k.val + 2) -∗ Q ⟨⟩)) ⊢ runs c (nx h) Q

theorem starts_of (c s : Dev nD) (k : Fin 8) (C : Prop) (hC : C ↔ k.val + 2 < 8)
    (o : Fin 2 → ℕ) (h : C → ∀ a, o a + S2048x512.size a ≤ S8192x4096.size a) (q : Fin 3 → ℕ) (hq : C → ∀ a, q a + S1x2048x512.size a ≤ S2x2048x512.size a)
    (sm : C → DmaSem sig)
    (eo : o = ![2048 * s.val, 512 * k.val + 1024]) (eq : q = ![k.val % 2, 0, 0]) (es : ∀ h, sm h = wS (par k.val)) :
    Starts m c s k C (fun hc : C => wStart o (h hc) q (hq hc) (sm hc)) := by
  refine ⟨hC, fun hc Q => ?_⟩
  have hk : k.val + 2 < 8 := hC.mp hc
  have hs : slotSt m c s (k.val + 2) = pend m c (par k.val) s ⟨k.val + 2, hk⟩ := by
    unfold slotSt; rw [dif_pos hk]; exact congrArg (fun p => pend m c p s _) (Fin.ext (Nat.add_mod_right k.val 2))
  rw [hs]
  exact wStart_spec m c (par k.val) s ⟨k.val + 2, hk⟩ _ _ _ _ _ (by rw [eo]; rfl) eq (es hc) Q

/-- The end of a trip: the tile two on started in the slot freed, if there is one. -/
theorem tail_spec (c s : Dev nD) (k : Fin 8) (C : Prop) [Decidable C] (nx : C → PR F PUnit) (hnx : Starts m c s k C nx) (Q : Unit → sProp 𝕄) :
    iprop(idle m c (par k.val) ∗ (slotSt m c s (k.val + 2) -∗ Q ⟨⟩))
      ⊢ runs c (if h : C then nx h >>= fun _ => (pure ⟨⟩ : PR F Unit) else pure ⟨⟩) Q := by
  by_cases hC : C
  · rw [dif_pos hC, runs_bind]
    iintro ⟨Hi, Hk⟩
    iapply (hnx.2 hC)
    isplitl [Hi]; · iexact Hi
    iintro Hs
    iapply (runs_pure c)
    iapply Hk; iexact Hs
  · rw [dif_neg hC, slotSt_ge m c s k.val (fun h => hC (hnx.1.mpr h))]
    iintro ⟨Hi, Hk⟩
    iapply (runs_pure c)
    iapply Hk; iexact Hi

/-- What every product's loop keeps besides its operand. -/
def keeps (c s : Dev nD) (h : Fin 2) (new old : Fin 8 → Vec F S1024x512 .f32) (k : ℕ) : sProp 𝕄 :=
  iprop(accR c h (after new old k) ∗ slotSt m c s k ∗ slotSt m c s (k + 1) ∗ owed c 0 ∗ levAts L lv)

theorem hz' : (![0, 0] : Fin 2 → Nat) = fun _ => 0 := hz

theorem read_xf (f : (cc0_scratch2 : Ref sig .tc).ty.Contents (Elt F)) :
    xfM.view.readAt (Elt F) (Rect.unit (s := S1024x2048) ![0, 0] S1024x2048.size inb_S1024x2048_S1024x2048_0_0).toLoadRect f = f :=
  Memref.readAt_unit_zero (Elt F) cc0_scratch2 hz _ f
theorem read_xb (f : (cc0_scratch3 : Ref sig .tc).ty.Contents (Elt F)) :
    xbM.view.readAt (Elt F) (Rect.unit (s := S1024x2048) ![0, 0] S1024x2048.size inb_S1024x2048_S1024x2048_0_0).toLoadRect f = f :=
  Memref.readAt_unit_zero (Elt F) cc0_scratch3 hz _ f

/-- The first products' operand and the later ones', in their buffers. -/
def xfH (c : Dev nD) (X : Vec F S1024x2048 .f32) : sProp 𝕄 := ((c : Thread nD τ).loc cc0_scratch2) ↦{fullShare} (X : Buf (Elt F) ((c : Thread nD τ).loc cc0_scratch2))
def xbH (c : Dev nD) (X : Vec F S1024x2048 .bf16) : sProp 𝕄 := ((c : Thread nD τ).loc cc0_scratch3) ↦{fullShare} (X : Buf (Elt F) ((c : Thread nD τ).loc cc0_scratch3))

theorem tripA_spec (c s : Dev nD) (h : Fin 2) (k : Fin 8) (X : Vec F S1024x2048 .f32) (old : Fin 8 → Vec F S1024x512 .f32)
    (sm p hp p' hp' o ho C) [Decidable C] (nx : C → PR F PUnit) (es : sm = wS (par k.val)) (ep : p = ![k.val % 2, 0, 0]) (ep' : p' = ![k.val % 2, 0, 0])
    (eo : o = ![1024 * h.val, 512 * k.val]) (hnx : Starts m c s k C nx) :
    iprop(xfH c X ∗ keeps m c s h (fun n => payA X (WV m c s n)) old k.val)
      ⊢ runs c (tripA sm p hp p' hp' o ho C nx) fun _ => iprop(xfH c X ∗ keeps m c s h (fun n => payA X (WV m c s n)) old (k.val + 1)) := by
  unfold tripA keeps xfH
  rw [slotSt_lt]
  iintro ⟨Hx, Ha, Hp, Hn, HO, #Hl⟩
  rw [runs_bind]
  iapply (wAwait_spec m c (par k.val) s k _ _ _ _ _ _ _ ep es)
  isplitl [Hp]; · iexact Hp
  isplitl [HO]; · iexact HO
  isplitr; · iexact Hl
  iintro ⟨Hp, Hw, Hv, HO⟩
  rw [runs_bind]
  iapply (load_spec c (w := xfM) (Finset.subset_univ _))
  isplitl [Hx]; · iexact Hx
  iintro Hx
  rw [read_xf, runs_bind]
  iapply (wLoad_spec c (par k.val) _ _ _ ep')
  isplitl [Hp]; · iexact Hp
  iintro %w %hw Hp
  rw [runs_bind]
  iapply (accLoad_spec c h k _ _ _ _ eo)
  isplitl [Ha]; · iexact Ha
  iintro Ha
  rw [runs_bind]
  iapply (accStore_spec c h k _ _ _ eo)
  isplitl [Ha]; · iexact Ha
  rw [pay15_eq, hw, after_succ (fun n => payA X (WV m c s n)) old k]
  iintro Ha
  iapply (tail_spec m c s k C nx hnx)
  isplitl [Hp Hw Hv]
  · unfold idle
    isplitl [Hp]; · iexact Hp
    isplitl [Hw] <;> iassumption
  iintro Hs
  isplitl [Hx]; · iexact Hx
  isplitl [Ha]; · iexact Ha
  isplitl [Hn]; · iexact Hn
  isplitl [Hs]; · iexact Hs
  isplitl [HO]; · iexact HO
  iexact Hl

theorem tripB_spec (c s : Dev nD) (h : Fin 2) (k : Fin 8) (X : Vec F S1024x2048 .bf16) (old : Fin 8 → Vec F S1024x512 .f32)
    (sm p hp p' hp' o ho C) [Decidable C] (nx : C → PR F PUnit) (es : sm = wS (par k.val)) (ep : p = ![k.val % 2, 0, 0]) (ep' : p' = ![k.val % 2, 0, 0])
    (eo : o = ![1024 * h.val, 512 * k.val]) (hnx : Starts m c s k C nx) :
    iprop(xbH c X ∗ keeps m c s h (fun n => payB X (WV m c s n) (old n)) old k.val)
      ⊢ runs c (tripB sm p hp p' hp' o ho C nx) fun _ => iprop(xbH c X ∗ keeps m c s h (fun n => payB X (WV m c s n) (old n)) old (k.val + 1)) := by
  unfold tripB keeps xbH
  rw [slotSt_lt]
  iintro ⟨Hx, Ha, Hp, Hn, HO, #Hl⟩
  rw [runs_bind]
  iapply (wAwait_spec m c (par k.val) s k _ _ _ _ _ _ _ ep es)
  isplitl [Hp]; · iexact Hp
  isplitl [HO]; · iexact HO
  isplitr; · iexact Hl
  iintro ⟨Hp, Hw, Hv, HO⟩
  rw [runs_bind]
  iapply (load_spec c (w := xbM) (Finset.subset_univ _))
  isplitl [Hx]; · iexact Hx
  iintro Hx
  rw [read_xb, runs_bind]
  iapply (wLoad_spec c (par k.val) _ _ _ ep')
  isplitl [Hp]; · iexact Hp
  iintro %w %hw Hp
  rw [runs_bind]
  iapply (accLoad_spec c h k _ _ _ _ eo)
  isplitl [Ha]; · iexact Ha
  iintro Ha
  rw [runs_bind]
  iapply (accLoad_spec c h k _ _ _ _ eo)
  isplitl [Ha]; · iexact Ha
  iintro Ha
  rw [runs_bind]
  iapply (accStore_spec c h k _ _ _ eo)
  isplitl [Ha]; · iexact Ha
  rw [pay17_eq, hw, after_at, after_succ (fun n => payB X (WV m c s n) (old n)) old k]
  iintro Ha
  iapply (tail_spec m c s k C nx hnx)
  isplitl [Hp Hw Hv]
  · unfold idle
    isplitl [Hp]; · iexact Hp
    isplitl [Hw] <;> iassumption
  iintro Hs
  isplitl [Hx]; · iexact Hx
  isplitl [Ha]; · iexact Ha
  isplitl [Hn]; · iexact Hn
  isplitl [Hs]; · iexact Hs
  isplitl [HO]; · iexact HO
  iexact Hl

theorem tripS_spec (c : Dev nD) (h : Fin 2) (k : Fin 8) (old : Fin 8 → Vec F S1024x512 .f32) (o ho) (eo : o = ![1024 * h.val, 512 * k.val]) :
    accR c h (after (fun n => payS (old n)) old k.val)
      ⊢ runs c (tripS o ho) fun _ => accR c h (after (fun n => payS (old n)) old (k.val + 1)) := by
  unfold tripS
  iintro Ha
  rw [runs_bind]
  iapply (accLoad_spec c h k _ _ _ _ eo)
  isplitl [Ha]; · iexact Ha
  iintro Ha
  rw [runs_bind]
  iapply (accLoad_spec c h k _ _ _ _ eo)
  isplitl [Ha]; · iexact Ha
  iintro Ha
  rw [runs_bind]
  iapply (accStore_spec c h k _ _ _ eo)
  isplitl [Ha]; · iexact Ha
  rw [pay22_eq, after_at, after_succ (fun n => payS (old n)) old k]
  iintro Ha
  iapply (runs_pure c)
  iexact Ha

/-! ## The loops -/

theorem trips8 : lp.trips = 8 := by decide +kernel

theorem loop8_spec (c : Dev nD) (I : ℕ → sProp 𝕄) (b : T8 → PR F Unit) (hb : ∀ k : Fin 8, I k.val ⊢ runs c (b (k.cast trips8.symm)) fun _ => I (k.val + 1))
    (Q : Unit → sProp 𝕄) : iprop(I 0 ∗ (I 8 -∗ Q ⟨⟩)) ⊢ runs c (loop8 b) Q := by
  unfold loop8
  iintro ⟨HI, Hk⟩
  iapply (Scf.wp_for _ _ _ lp.lb lp.ub lp.st k0_t1_ok ⟨⟩ (fun k _ => b k) (fun k _ => I k) (fun k _ => hb (k.cast trips8)))
  isplitl [HI]; · iexact HI
  iintro %a HI
  rw [show (Scf.trips lp.lb lp.ub lp.st) = 8 from trips8]
  iapply Hk; iexact HI

/-- A product's loop keeps its operand and brings the half's tiles to their next values, its slots from the first tile's
    copies under way to none. -/
theorem loopA_spec (c s : Dev nD) (h : Fin 2) (X : Vec F S1024x2048 .f32) (old : Fin 8 → Vec F S1024x512 .f32) (b : T8 → PR F Unit)
    (hb : ∀ k : Fin 8, iprop(xfH c X ∗ keeps m c s h (fun n => payA X (WV m c s n)) old k.val)
      ⊢ runs c (b (k.cast trips8.symm)) fun _ => iprop(xfH c X ∗ keeps m c s h (fun n => payA X (WV m c s n)) old (k.val + 1)))
    (Q : Unit → sProp 𝕄) :
    iprop(xfH c X ∗ accR c h old ∗ pend m c 0 s 0 ∗ pend m c 1 s 1 ∗ owed c 0 ∗ levAts L lv
        ∗ ((xfH c X ∗ accR c h (fun n => payA X (WV m c s n)) ∗ idle m c 0 ∗ idle m c 1 ∗ owed c 0) -∗ Q ⟨⟩))
      ⊢ runs c (loop8 b) Q := by
  iintro ⟨Hx, Ha, Hp, Hn, HO, #Hl, Hk⟩
  iapply (loop8_spec c (fun k => iprop(xfH c X ∗ keeps m c s h (fun n => payA X (WV m c s n)) old k)) b hb)
  unfold keeps
  rw [after_zero, after_all, slotSt_0, slotSt_1, slotSt_8, slotSt_9]
  isplitr [Hk]
  · isplitl [Hx]; · iexact Hx
    isplitl [Ha]; · iexact Ha
    isplitl [Hp]; · iexact Hp
    isplitl [Hn]; · iexact Hn
    isplitl [HO]; · iexact HO
    iexact Hl
  · iintro ⟨Hx, Ha, Hp, Hn, HO, -⟩
    iapply Hk
    isplitl [Hx]; · iexact Hx
    isplitl [Ha]; · iexact Ha
    isplitl [Hp]; · iexact Hp
    isplitl [Hn]; · iexact Hn
    iexact HO

theorem loopB_spec (c s : Dev nD) (h : Fin 2) (X : Vec F S1024x2048 .bf16) (old : Fin 8 → Vec F S1024x512 .f32) (b : T8 → PR F Unit)
    (hb : ∀ k : Fin 8, iprop(xbH c X ∗ keeps m c s h (fun n => payB X (WV m c s n) (old n)) old k.val)
      ⊢ runs c (b (k.cast trips8.symm)) fun _ => iprop(xbH c X ∗ keeps m c s h (fun n => payB X (WV m c s n) (old n)) old (k.val + 1)))
    (Q : Unit → sProp 𝕄) :
    iprop(xbH c X ∗ accR c h old ∗ pend m c 0 s 0 ∗ pend m c 1 s 1 ∗ owed c 0 ∗ levAts L lv
        ∗ ((xbH c X ∗ accR c h (fun n => payB X (WV m c s n) (old n)) ∗ idle m c 0 ∗ idle m c 1 ∗ owed c 0) -∗ Q ⟨⟩))
      ⊢ runs c (loop8 b) Q := by
  iintro ⟨Hx, Ha, Hp, Hn, HO, #Hl, Hk⟩
  iapply (loop8_spec c (fun k => iprop(xbH c X ∗ keeps m c s h (fun n => payB X (WV m c s n) (old n)) old k)) b hb)
  unfold keeps
  rw [after_zero, after_all, slotSt_0, slotSt_1, slotSt_8, slotSt_9]
  isplitr [Hk]
  · isplitl [Hx]; · iexact Hx
    isplitl [Ha]; · iexact Ha
    isplitl [Hp]; · iexact Hp
    isplitl [Hn]; · iexact Hn
    isplitl [HO]; · iexact HO
    iexact Hl
  · iintro ⟨Hx, Ha, Hp, Hn, HO, -⟩
    iapply Hk
    isplitl [Hx]; · iexact Hx
    isplitl [Ha]; · iexact Ha
    isplitl [Hp]; · iexact Hp
    isplitl [Hn]; · iexact Hn
    iexact HO

theorem loopS_spec (c : Dev nD) (h : Fin 2) (old : Fin 8 → Vec F S1024x512 .f32) (b : T8 → PR F Unit)
    (hb : ∀ k : Fin 8, accR c h (after (fun n => payS (old n)) old k.val)
      ⊢ runs c (b (k.cast trips8.symm)) fun _ => accR c h (after (fun n => payS (old n)) old (k.val + 1)))
    (Q : Unit → sProp 𝕄) :
    iprop(accR c h old ∗ (accR c h (fun n => payS (old n)) -∗ Q ⟨⟩)) ⊢ runs c (loop8 b) Q := by
  iintro ⟨Ha, Hk⟩
  iapply (loop8_spec c (fun k => accR c h (after (fun n => payS (old n)) old k)) b hb)
  rw [after_zero, after_all]
  isplitl [Ha] <;> iassumption

end Cert.A2A

end
-- ==== Proof.Moves.lean ====
/-
The operands' and the results' copies, and the loops where they stand.
-/
module

public import proofs.«01_k».proof.Proof.Send
public import proofs.«01_k».proof.Proof.Loops

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

local notation "𝕄" => MT nD τ sig Unit (Elt F) ℕ UU ℕ

variable (m : (ℓ : Loc nD τ sig) → Buf (Elt F) ℓ) (K : Dev nD × Fin 13 → ℕ)

/-! ## Operands and results -/

/-- Half `h` of the device's own rows. -/
def XO (c : Dev nD) (h : Fin 2) : Vec F S1024x2048 .f32 := (xW c h).view.read (Elt F) (m ((c : Thread nD τ).loc main_arg0))

/-- `x` on device `c`. -/
abbrev xAll (c : Dev nD) : sProp 𝕄 := ((c : Thread nD τ).loc main_arg0) ↦{fullShare} m ((c : Thread nD τ).loc main_arg0)
/-- Half `h` of the device's own rows on its way to the first products' operand buffer. -/
def xfl (c : Dev nD) (h : Fin 2) : sProp 𝕄 :=
  iprop(fl c xS xfM.view.dmaCredit iprop(xfH c (XO m c h)
      ∗ ((xW c h).view.loc (c : Thread nD τ) ↦[(xW c h).view.set]{fullShare} m ((c : Thread nD τ).loc main_arg0)))
    ∗ (((xW c h).view.loc (c : Thread nD τ) ↦[(xW c h).view.set]{fullShare} m ((c : Thread nD τ).loc main_arg0)) -∗ xAll m c))

theorem xf_pos : 0 < xfM.view.dmaCredit := View.dmaCredit_pos _ (by decide)
theorem xb_pos : 0 < xbM.view.dmaCredit := View.dmaCredit_pos _ (by decide)
theorem oW_pos (h : Fin 2) : 0 < (oW h).view.dmaCredit := View.dmaCredit_pos _ (by decide)

theorem xGo_spec (c : Dev nD) (h : Fin 2) (o ho) (eo : o = ![2048 * c.val + 1024 * h.val, 0]) (Q : PUnit → sProp 𝕄) :
    iprop(xAll m c ∗ (∃ X, xfH c X) ∗ semVal ((c : Thread nD τ), .dma xS) 0 ∗ (xfl m c h -∗ Q ⟨⟩)) ⊢ runs c (xGo o ho) Q := by
  subst eo
  unfold xGo
  iintro ⟨Hx, ⟨%X, Hf⟩, Hv, Hk⟩
  ihave ⟨Hw, Hb⟩ := (carve (Finset.subset_univ (xW c h).view.set)) $$ Hx
  iapply (cpStart_spec c (xW c h) xfM xS (ev _) (ev _) ⟨Or.inl rfl, trivial⟩ xf_pos (Finset.subset_univ _))
  isplitl [Hw]; · iexact Hw
  isplitl [Hf]; · unfold xfH; iexact Hf
  isplitl [Hv]; · iexact Hv
  rw [show (xfM.view.write (Elt F) (X : (cc0_scratch2 : Ref sig .tc).ty.Contents (Elt F)) ((xW c h).view.read (Elt F) (m ((c : Thread nD τ).loc main_arg0))) Finset.univ)
    = XO m c h from View.write_whole_univ _ _ _]
  iintro Hf
  iapply Hk
  unfold xfl xfH
  isplitl [Hf] <;> iassumption

theorem xDone_spec (c : Dev nD) (h : Fin 2) (o ho) (Q : PUnit → sProp 𝕄) :
    iprop(xfl m c h ∗ owed c 0 ∗ levAts L lv ∗ ((xfH c (XO m c h) ∗ xAll m c ∗ semVal ((c : Thread nD τ), .dma xS) 0 ∗ owed c 0) -∗ Q ⟨⟩))
      ⊢ runs c (xDone o ho) Q := by
  unfold xDone xfl
  iintro ⟨⟨Hf, Hb⟩, HO, Hl, Hk⟩
  iapply (cpWait_spec c (xH o ho) xfM xS (ev _) (ev _) (mayWait_zero c _))
  isplitl [Hf]; · iexact Hf
  isplitl [HO]; · iexact HO
  isplitl [Hl]; · iexact Hl
  iintro ⟨⟨Hf, Hx⟩, Hv, HO⟩
  iapply Hk
  isplitl [Hf]; · iexact Hf
  isplitl [Hx Hb]; · iapply Hb; iexact Hx
  isplitl [Hv] <;> iassumption

/-- What landed brought into the later products' operand buffer. -/
theorem fetch_spec (c : Dev nD) (e : Fin 6) (g hg wg) (eg : g = ![(origin c e).val, 1024 * (lo e).val, 0]) (Q : PUnit → sProp 𝕄) :
    iprop(recvPay m c e ∗ (∃ X, xbH c X) ∗ semVal ((c : Thread nD τ), .dma xS) 0 ∗ owed c 0 ∗ levAts L lv
        ∗ ((xbH c (XS m (origin c e) c (lo e)) ∗ semVal ((c : Thread nD τ), .dma xS) 0 ∗ owed c 0) -∗ Q ⟨⟩))
      ⊢ runs c (fetch g hg wg) Q := by
  subst eg
  unfold fetch recvPay owns
  iintro ⟨⟨%f, %hf, Hg⟩, ⟨%X, Hb⟩, Hv, HO, Hl, Hk⟩
  rw [runs_bind]
  iapply (cpStart_spec c (gW (origin c e) (lo e)) xbM xS wg (Memref.isWhole_whole cc0_scratch3).wordExact ⟨Or.inl rfl, trivial⟩ xb_pos (Finset.subset_univ _))
  isplitl [Hg]; · iexact Hg
  isplitl [Hb]; · unfold xbH; iexact Hb
  isplitl [Hv]; · iexact Hv
  rw [show (xbM.view.write (Elt F) (X : (cc0_scratch3 : Ref sig .tc).ty.Contents (Elt F)) ((gW (origin c e) (lo e)).view.read (Elt F) f) Finset.univ)
    = XS m (origin c e) c (lo e) from (View.write_whole_univ _ _ _).trans hf]
  iintro Hf
  iapply (cpWait_spec c (gW (origin c e) (lo e)) xbM xS wg (Memref.isWhole_whole cc0_scratch3).wordExact (mayWait_zero c _))
  isplitl [Hf]; · iexact Hf
  isplitl [HO]; · iexact HO
  isplitl [Hl]; · iexact Hl
  iintro ⟨⟨Hb, -⟩, Hv, HO⟩
  iapply Hk
  unfold xbH
  isplitl [Hb]; · iexact Hb
  isplitl [Hv] <;> iassumption

/-- An element of tile `n`, in its half. -/
def tix (n : Fin 8) (x : S1024x512.Idx) : S1024x4096.Idx := fun
  | ⟨0, _⟩ => x 0
  | ⟨1, _⟩ => ⟨512 * n.val + (x 1).val, by have := n.isLt; have : (x 1).val < 512 := (x 1).isLt; show _ < 4096; omega⟩

theorem acc_tile (h : Fin 2) (n : Fin 8) (f : (aM).view.ty.Contents (Elt F)) (x : S1024x512.Idx) :
    (aM.access (aR ![1024 * h.val, 512 * n.val] (tO_inb h n))).read (Elt F) f x = (aW h).view.read (Elt F) f (tix n x) := by
  refine congrArg f (funext fun a => Fin.ext ?_)
  rw [show ((aM.access (aR ![1024 * h.val, 512 * n.val] (tO_inb h n))).emb x a).val = _ from ValueKit.rect_emb_unit_val (s := S2048x4096) _ S1024x512.size _ x a,
    show ((aW h).view.emb (tix n x) a).val = _ from ValueKit.rect_emb_unit_val (s := S2048x4096) _ S1024x4096.size _ (tix n x) a]
  fin_cases a
  · rfl
  · show 512 * n.val + (x 1).val = 0 + (512 * n.val + (x 1).val); omega

/-- Half `h` of the result, its eight tiles being `A`. -/
def outR (c : Dev nD) (h : Fin 2) (A : Fin 8 → Vec F S1024x512 .f32) : sProp 𝕄 :=
  iprop(∃ g : Buf (Elt F) ((c : Thread nD τ).loc main_v1_0), ⌜∀ n x, (oW h).view.read (Elt F) g (tix n x) = A n x⌝ ∗ pt c (oW h) g)
/-- It on its way there. -/
def ofl (c : Dev nD) (h : Fin 2) (A : Fin 8 → Vec F S1024x512 .f32) : sProp 𝕄 :=
  fl c (outS h) (oW h).view.dmaCredit iprop(outR c h A ∗ ∃ f, pt c (aW h) f)

theorem outGo_spec (c : Dev nD) (h : Fin 2) (A : Fin 8 → Vec F S1024x512 .f32) (o ho sm) (eo : o = ![1024 * h.val, 0]) (es : sm = outS h) (Q : PUnit → sProp 𝕄) :
    iprop(accR c h A ∗ (∃ f, pt c (oW h) f) ∗ semVal ((c : Thread nD τ), .dma (outS h)) 0 ∗ (ofl c h A -∗ Q ⟨⟩)) ⊢ runs c (outGo o ho sm) Q := by
  subst eo es
  unfold outGo accR
  iintro ⟨⟨%f, %hf, Ha⟩, ⟨%g, Hg⟩, Hv, Hk⟩
  iapply (cpStart_spec c (aW h) (oW h) (outS h) (ev _) (ev _) ⟨Or.inl rfl, trivial⟩ (oW_pos h) (Finset.Subset.refl _))
  isplitl [Ha]; · iexact Ha
  isplitl [Hg]; · iexact Hg
  isplitl [Hv]; · iexact Hv
  iintro Hf
  iapply Hk
  unfold ofl outR
  iapply (Transfers.Flight_mono EC ?_) $$ Hf
  iintro ⟨H1, H2⟩
  isplitl [H1]
  · iexists (oW h).view.write (Elt F) g ((aW h).view.read (Elt F) f) Finset.univ
    isplitr
    · ipureintro
      intro n x
      rw [View.read_write_univ, ← acc_tile, hf]
    · iexact H1
  · iexists f; iexact H2

theorem outDone_spec (c : Dev nD) (h : Fin 2) (A : Fin 8 → Vec F S1024x512 .f32) (o ho sm) (eo : o = ![1024 * h.val, 0]) (es : sm = outS h) (Q : PUnit → sProp 𝕄) :
    iprop(ofl c h A ∗ owed c 0 ∗ levAts L lv ∗ ((outR c h A ∗ (∃ f, pt c (aW h) f) ∗ semVal ((c : Thread nD τ), .dma (outS h)) 0 ∗ owed c 0) -∗ Q ⟨⟩))
      ⊢ runs c (outDone o ho sm) Q := by
  subst eo es
  unfold outDone ofl
  iintro ⟨Hf, HO, Hl, Hk⟩
  iapply (cpWait_spec c (aW h) (oW h) (outS h) (ev _) (ev _) (mayWait_zero c _))
  isplitl [Hf]; · iexact Hf
  isplitl [HO]; · iexact HO
  isplitl [Hl]; · iexact Hl
  iintro ⟨⟨Ho, Ha⟩, Hv, HO⟩
  iapply Hk
  isplitl [Ho]; · iexact Ho
  isplitl [Ha]; · iexact Ha
  isplitl [Hv] <;> iassumption

/-! ## The tiles' starts and the loops, in place -/

theorem w0_spec (c : Dev nD) (r : Fin 4) (Q : PUnit → sProp 𝕄) :
    iprop(idle m c 0 ∗ (pend m c 0 (add c r.val) 0 -∗ Q ⟨⟩)) ⊢ runs c (w0 c r) Q :=
  wStart_spec m c 0 (add c r.val) 0 _ _ _ _ _ (k0_off5_eq c r) rfl rfl Q
theorem w1_spec (c : Dev nD) (r : Fin 4) (Q : PUnit → sProp 𝕄) :
    iprop(idle m c 1 ∗ (pend m c 1 (add c r.val) 1 -∗ Q ⟨⟩)) ⊢ runs c (w1 c r) Q :=
  wStart_spec m c 1 (add c r.val) 1 _ _ _ _ _ (k0_off6_eq c r) rfl rfl Q

theorem wSem_at (p : Fin 2) (h) : wSem ![p.val] h = wS p := by
  rcases p with ⟨_ | _ | p, hp⟩
  · exact (by decide +kernel : wSem ![0] inb_S2_S1_0 = wS 0)
  · exact (by decide +kernel : wSem ![1] inb_S2_S1_1 = wS 1)
  · exact absurd hp (by omega)
theorem wSem_eq (o h) (k : ℕ) (eo : o = ![k % 2]) : wSem o h = wS (par k) := by
  subst eo; exact wSem_at (par k) h

/-- A loop of first products. -/
abbrev LoopA (c s : Dev nD) (h : Fin 2) (l : PR F Unit) : Prop :=
  ∀ (X : Vec F S1024x2048 .f32) (old : Fin 8 → Vec F S1024x512 .f32) (Q : Unit → sProp 𝕄),
    iprop(xfH c X ∗ accR c h old ∗ pend m c 0 s 0 ∗ pend m c 1 s 1 ∗ owed c 0 ∗ levAts L lv
        ∗ ((xfH c X ∗ accR c h (fun n => payA X (WV m c s n)) ∗ idle m c 0 ∗ idle m c 1 ∗ owed c 0) -∗ Q ⟨⟩))
      ⊢ runs c l Q
/-- A loop of later products. -/
abbrev LoopB (c s : Dev nD) (h : Fin 2) (l : PR F Unit) : Prop :=
  ∀ (X : Vec F S1024x2048 .bf16) (old : Fin 8 → Vec F S1024x512 .f32) (Q : Unit → sProp 𝕄),
    iprop(xbH c X ∗ accR c h old ∗ pend m c 0 s 0 ∗ pend m c 1 s 1 ∗ owed c 0 ∗ levAts L lv
        ∗ ((xbH c X ∗ accR c h (fun n => payB X (WV m c s n) (old n)) ∗ idle m c 0 ∗ idle m c 1 ∗ owed c 0) -∗ Q ⟨⟩))
      ⊢ runs c l Q

theorem loop1_spec (c : Dev nD) : LoopA m c c 0 (loop1 c) := fun X old Q =>
  loopA_spec m c c 0 X old _ (fun k => tripA_spec m c c 0 k X old _ _ _ _ _ _ _ _ _ (wSem_eq _ _ _ (k0_off7_eq _)) (k0_off8_eq _) (k0_off9_eq _) (k0_off10_eq _)
    (starts_of m c c k _ ((by decide +kernel : ∀ k : T8, k0_cond1 k = 1#1 ↔ k.val + 2 < 8) _) _ _ _ _ _ (k0_off13_eq c _) (k0_off12_eq _)
      fun _ => wSem_eq _ _ _ (k0_off11_eq _))) Q
theorem loop2_spec (c : Dev nD) : LoopA m c c 1 (loop2 c) := fun X old Q =>
  loopA_spec m c c 1 X old _ (fun k => tripA_spec m c c 1 k X old _ _ _ _ _ _ _ _ _ (wSem_eq _ _ _ (k0_off14_eq _)) (k0_off15_eq _) (k0_off16_eq _) (k0_off17_eq _)
    (starts_of m c c k _ ((by decide +kernel : ∀ k : T8, k0_cond2 k = 1#1 ↔ k.val + 2 < 8) _) _ _ _ _ _ (k0_off20_eq c _) (k0_off19_eq _)
      fun _ => wSem_eq _ _ _ (k0_off18_eq _))) Q
theorem loop3_spec (c : Dev nD) : LoopB m c (add c 3) 0 (loop3 c) := fun X old Q =>
  loopB_spec m c (add c 3) 0 X old _ (fun k => tripB_spec m c (add c 3) 0 k X old _ _ _ _ _ _ _ _ _ (wSem_eq _ _ _ (k0_off22_eq _)) (k0_off23_eq _) (k0_off24_eq _) (k0_off25_eq _)
    (starts_of m c (add c 3) k _ ((by decide +kernel : ∀ k : T8, k0_cond3 k = 1#1 ↔ k.val + 2 < 8) _) _ _ _ _ _ (k0_off28_eq c _) (k0_off27_eq _)
      fun _ => wSem_eq _ _ _ (k0_off26_eq _))) Q
theorem loop4_spec (c : Dev nD) : LoopB m c (add c 3) 1 (loop4 c) := fun X old Q =>
  loopB_spec m c (add c 3) 1 X old _ (fun k => tripB_spec m c (add c 3) 1 k X old _ _ _ _ _ _ _ _ _ (wSem_eq _ _ _ (k0_off30_eq _)) (k0_off31_eq _) (k0_off32_eq _) (k0_off33_eq _)
    (starts_of m c (add c 3) k _ ((by decide +kernel : ∀ k : T8, k0_cond4 k = 1#1 ↔ k.val + 2 < 8) _) _ _ _ _ _ (k0_off36_eq c _) (k0_off35_eq _)
      fun _ => wSem_eq _ _ _ (k0_off34_eq _))) Q
theorem loop5_spec (c : Dev nD) : LoopB m c (add c 1) 0 (loop5 c) := fun X old Q =>
  loopB_spec m c (add c 1) 0 X old _ (fun k => tripB_spec m c (add c 1) 0 k X old _ _ _ _ _ _ _ _ _ (wSem_eq _ _ _ (k0_off37_eq _)) (k0_off38_eq _) (k0_off39_eq _) (k0_off40_eq _)
    (starts_of m c (add c 1) k _ ((by decide +kernel : ∀ k : T8, k0_cond5 k = 1#1 ↔ k.val + 2 < 8) _) _ _ _ _ _ (k0_off43_eq c _) (k0_off42_eq _)
      fun _ => wSem_eq _ _ _ (k0_off41_eq _))) Q
theorem loop6_spec (c : Dev nD) : LoopB m c (add c 1) 1 (loop6 c) := fun X old Q =>
  loopB_spec m c (add c 1) 1 X old _ (fun k => tripB_spec m c (add c 1) 1 k X old _ _ _ _ _ _ _ _ _ (wSem_eq _ _ _ (k0_off44_eq _)) (k0_off45_eq _) (k0_off46_eq _) (k0_off47_eq _)
    (starts_of m c (add c 1) k _ ((by decide +kernel : ∀ k : T8, k0_cond6 k = 1#1 ↔ k.val + 2 < 8) _) _ _ _ _ _ (k0_off50_eq c _) (k0_off49_eq _)
      fun _ => wSem_eq _ _ _ (k0_off48_eq _))) Q
theorem loop7_spec (c : Dev nD) : LoopB m c (add c 2) 0 (loop7 c) := fun X old Q =>
  loopB_spec m c (add c 2) 0 X old _ (fun k => tripB_spec m c (add c 2) 0 k X old _ _ _ _ _ _ _ _ _ (wSem_eq _ _ _ (k0_off51_eq _)) (k0_off52_eq _) (k0_off53_eq _) (k0_off54_eq _)
    (starts_of m c (add c 2) k _ ((by decide +kernel : ∀ k : T8, k0_cond7 k = 1#1 ↔ k.val + 2 < 8) _) _ _ _ _ _ (k0_off57_eq c _) (k0_off56_eq _)
      fun _ => wSem_eq _ _ _ (k0_off55_eq _))) Q
theorem loop9_spec (c : Dev nD) : LoopB m c (add c 2) 1 (loop9 c) := fun X old Q =>
  loopB_spec m c (add c 2) 1 X old _ (fun k => tripB_spec m c (add c 2) 1 k X old _ _ _ _ _ _ _ _ _ (wSem_eq _ _ _ (k0_off59_eq _)) (k0_off60_eq _) (k0_off61_eq _) (k0_off62_eq _)
    (starts_of m c (add c 2) k _ ((by decide +kernel : ∀ k : T8, k0_cond8 k = 1#1 ↔ k.val + 2 < 8) _) _ _ _ _ _ (k0_off65_eq c _) (k0_off64_eq _)
      fun _ => wSem_eq _ _ _ (k0_off63_eq _))) Q

end Cert.A2A

end
-- ==== Proof.Body.lean ====
/-
A device's program from what it starts from to what it ends with.
-/
module

public import proofs.«01_k».proof.Proof.Moves

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

local notation "𝕄" => MT nD τ sig Unit (Elt F) ℕ UU ℕ

variable (m : (ℓ : Loc nD τ sig) → Buf (Elt F) ℓ) (K : Dev nD × Fin 13 → ℕ)

/-! ## A device's program, step after step -/

theorem runs_pure_runs (c : Dev nD) {α β : Type} (a : α) (p : α → PR F β) (Q : β → sProp 𝕄) :
    runs c (pure a : PR F α) (fun a => runs c (p a) Q) = runs c (p a) Q := (runs_bind c (pure a) p Q).symm

theorem add_zero' (c : Dev nD) : add c 0 = c := Fin.ext (Nat.mod_eq_of_lt c.isLt)

/-- Tiles of a half, product after product: the device's own rows', then those from the device before, the one after and
    the one across, then the activation. -/
def T1 (c : Dev nD) (h : Fin 2) (n : Fin 8) : Vec F S1024x512 .f32 := payA (XO m c h) (WV m c c n)
def T2 (c : Dev nD) (h : Fin 2) (n : Fin 8) : Vec F S1024x512 .f32 := payB (XS m (add c 3) c h) (WV m c (add c 3) n) (T1 m c h n)
def T3 (c : Dev nD) (h : Fin 2) (n : Fin 8) : Vec F S1024x512 .f32 := payB (XS m (add c 1) c h) (WV m c (add c 1) n) (T2 m c h n)
def T4 (c : Dev nD) (h : Fin 2) (n : Fin 8) : Vec F S1024x512 .f32 := payB (XS m (add c 2) c h) (WV m c (add c 2) n) (T3 m c h n)
def TO (c : Dev nD) (h : Fin 2) (n : Fin 8) : Vec F S1024x512 .f32 := payS (T4 m c h n)

/-- Buffers at any contents. -/
abbrev some (c : Dev nD) (b : Ref sig .tc) : sProp 𝕄 := iprop(∃ f : Buf (Elt F) ((c : Thread nD τ).loc b), ((c : Thread nD τ).loc b) ↦{fullShare} f)
abbrev sem0 (c : Dev nD) (sm : DmaSem sig) : sProp 𝕄 := semVal ((c : Thread nD τ), .dma sm) 0

/-- One landed half's products: its tiles' copies started, itself awaited and fetched, then the loop. -/
theorem stage_spec (c : Dev nD) (e : Fin 6) (r : Fin 4) (hr : origin c e = add c r.val) (l : PR F Unit) (hl : LoopB m c (add c r.val) (lo e) l)
    (old : Fin 8 → Vec F S1024x512 .f32) (q hq wq g hg wg sm) (eg : g = ![(add c r.val).val, 1024 * (lo e).val, 0]) (es : sm = recvD e) (Q : sProp 𝕄) :
    iprop(records m K ∗ levAts L lv ∗ idle m c 0 ∗ idle m c 1 ∗ rowIn c e ∗ (∃ X, xbH c X) ∗ sem0 c xS ∗ accR c (lo e) old ∗ owed c 0
        ∗ ((idle m c 0 ∗ idle m c 1 ∗ semVal (recvC c e) 0 ∗ (∃ X, xbH c X) ∗ sem0 c xS
            ∗ accR c (lo e) (fun n => payB (XS m (add c r.val) c (lo e)) (WV m c (add c r.val) n) (old n)) ∗ owed c 0) -∗ Q))
      ⊢ runs c (w0 c r) fun _ => runs c (w1 c r) fun _ => runs c (recv q hq wq g hg wg sm) fun _ => runs c (fetch g hg wg) fun _ => runs c l fun _ => Q := by
  rw [← hr] at eg hl ⊢
  unfold rowIn
  iintro ⟨#HR, #Hl, H0, H1, ⟨Hc, Hat⟩, Hb, Hx, Ha, HO, Hk⟩
  iapply (w0_spec m c r)
  isplitl [H0]; · iexact H0
  iintro H0
  iapply (w1_spec m c r)
  isplitl [H1]; · iexact H1
  iintro H1
  iapply (recv_spec m K c e _ _ _ _ _ _ _ es)
  isplitr; · iexact HR
  isplitl [HO]; · iexact HO
  isplitl [Hc]; · iexact Hc
  isplitl [Hat]; · iexact Hat
  iintro ⟨HO, Hp, Hz⟩
  iapply (fetch_spec m c e _ _ _ eg)
  isplitl [Hp]; · iexact Hp
  isplitl [Hb]; · iexact Hb
  isplitl [Hx]; · iexact Hx
  isplitl [HO]; · iexact HO
  isplitr; · iexact Hl
  iintro ⟨Hb, Hx, HO⟩
  iapply (hl _ old)
  rw [hr]
  isplitl [Hb]; · iexact Hb
  isplitl [Ha]; · iexact Ha
  isplitl [H0]; · iexact H0
  isplitl [H1]; · iexact H1
  isplitl [HO]; · iexact HO
  isplitr; · iexact Hl
  iintro ⟨Hb, Ha, H0, H1, HO⟩
  iapply Hk
  isplitl [H0]; · iexact H0
  isplitl [H1]; · iexact H1
  isplitl [Hz]; · iexact Hz
  isplitl [Hb]; · iexists _; iexact Hb
  isplitl [Hx]; · iexact Hx
  isplitl [Ha]; · iexact Ha
  iexact HO

/-- The device's own rows' products. -/
theorem own_spec (c : Dev nD) (h : Fin 2) (l : PR F Unit) (hl : LoopA m c c h l) (old : Fin 8 → Vec F S1024x512 .f32) (o ho o' ho')
    (eo : o = ![2048 * c.val + 1024 * h.val, 0]) (Q : sProp 𝕄) :
    iprop(levAts L lv ∗ xAll m c ∗ (∃ X, xfH c X) ∗ sem0 c xS ∗ idle m c 0 ∗ idle m c 1 ∗ accR c h old ∗ owed c 0
        ∗ ((xAll m c ∗ (∃ X, xfH c X) ∗ sem0 c xS ∗ idle m c 0 ∗ idle m c 1 ∗ accR c h (T1 m c h) ∗ owed c 0) -∗ Q))
      ⊢ runs c (xGo o ho) fun _ => runs c (w0 c 0) fun _ => runs c (w1 c 0) fun _ => runs c (xDone o' ho') fun _ => runs c l fun _ => Q := by
  iintro ⟨#Hl, Hx, Hf, Hv, H0, H1, Ha, HO, Hk⟩
  iapply (xGo_spec m c h _ _ eo)
  isplitl [Hx]; · iexact Hx
  isplitl [Hf]; · iexact Hf
  isplitl [Hv]; · iexact Hv
  iintro Hf
  iapply (w0_spec m c 0)
  isplitl [H0]; · iexact H0
  iintro H0
  iapply (w1_spec m c 0)
  isplitl [H1]; · iexact H1
  rw [show add c (0 : Fin 4).val = c from add_zero' c]
  iintro H1
  iapply (xDone_spec m c h)
  isplitl [Hf]; · iexact Hf
  isplitl [HO]; · iexact HO
  isplitr; · iexact Hl
  iintro ⟨Hf, Hx, Hv, HO⟩
  iapply (hl _ old)
  isplitl [Hf]; · iexact Hf
  isplitl [Ha]; · iexact Ha
  isplitl [H0]; · iexact H0
  isplitl [H1]; · iexact H1
  isplitl [HO]; · iexact HO
  isplitr; · iexact Hl
  iintro ⟨Hf, Ha, H0, H1, HO⟩
  iapply Hk
  isplitl [Hx]; · iexact Hx
  isplitl [Hf]; · iexists _; iexact Hf
  isplitl [Hv]; · iexact Hv
  isplitl [H0]; · iexact H0
  isplitl [H1]; · iexact H1
  isplitl [Ha]; · unfold T1; iexact Ha
  iexact HO

/-- The activation of a half and its copy's start. -/
theorem act_spec (c : Dev nD) (h : Fin 2) (b : T8 → PR F Unit)
    (hb : ∀ (old : Fin 8 → Vec F S1024x512 .f32) (k : Fin 8), accR c h (after (fun n => payS (old n)) old k.val)
      ⊢ runs c (b (k.cast trips8.symm)) fun _ => accR c h (after (fun n => payS (old n)) old (k.val + 1)))
    (o ho sm) (eo : o = ![1024 * h.val, 0]) (es : sm = outS h) (Q : sProp 𝕄) :
    iprop(accR c h (T4 m c h) ∗ (∃ f, pt c (oW h) f) ∗ sem0 c (outS h) ∗ (ofl c h (TO m c h) -∗ Q))
      ⊢ runs c (loop8 b) fun _ => runs c (outGo o ho sm) fun _ => Q := by
  iintro ⟨Ha, Ho, Hv, Hk⟩
  iapply (loopS_spec c h (T4 m c h) b (hb _))
  isplitl [Ha]; · iexact Ha
  iintro Ha
  iapply (outGo_spec c h (TO m c h) _ _ _ eo es)
  isplitl [Ha]; · unfold TO; iexact Ha
  isplitl [Ho]; · iexact Ho
  isplitl [Hv]; · iexact Hv
  iexact Hk

/-- What a device starts from, besides the records and its debts: the barrier's and the rows' accounts, its buffers, its
    semaphores. -/
def Start (c : Dev nD) : sProp 𝕄 :=
  iprop(cred (tallyAt (barC c) () 3) ∗ atPos ER (barC c) 0 ∅ 0 ∗ sigPre c 0 ∗ sigPre c 1 ∗ sigPre c 2
    ∗ (rowPre c 0 ∗ rowPre c 1 ∗ rowPre c 2 ∗ rowPre c 3 ∗ rowPre c 4 ∗ rowPre c 5)
    ∗ (rowIn c 0 ∗ rowIn c 1 ∗ rowIn c 2 ∗ rowIn c 3 ∗ rowIn c 4 ∗ rowIn c 5)
    ∗ (atPos ER (sendC c 0) 0 ∅ 0 ∗ atPos ER (sendC c 1) 0 ∅ 0 ∗ atPos ER (sendC c 2) 0 ∅ 0 ∗ atPos ER (sendC c 3) 0 ∅ 0
      ∗ atPos ER (sendC c 4) 0 ∅ 0 ∗ atPos ER (sendC c 5) 0 ∅ 0)
    ∗ xAll m c ∗ some c cc0_scratch0 ∗ some c cc0_scratch1 ∗ (∃ X, xfH c X) ∗ (∃ X, xbH c X) ∗ idle m c 0 ∗ idle m c 1
    ∗ (∃ A, accR c 0 A) ∗ (∃ A, accR c 1 A) ∗ (∃ f, pt c (oW 0) f) ∗ (∃ f, pt c (oW 1) f)
    ∗ sem0 c cinS ∗ sem0 c coutS ∗ sem0 c xS ∗ sem0 c (outS 0) ∗ sem0 c (outS 1))

/-- What it ends with. -/
def End (c : Dev nD) : sProp 𝕄 :=
  iprop(semVal (barC c) 0
    ∗ (semVal (sendC c 0) 0 ∗ semVal (sendC c 1) 0 ∗ semVal (sendC c 2) 0 ∗ semVal (sendC c 3) 0 ∗ semVal (sendC c 4) 0 ∗ semVal (sendC c 5) 0)
    ∗ (semVal (recvC c 0) 0 ∗ semVal (recvC c 1) 0 ∗ semVal (recvC c 2) 0 ∗ semVal (recvC c 3) 0 ∗ semVal (recvC c 4) 0 ∗ semVal (recvC c 5) 0)
    ∗ xAll m c ∗ some c cc0_scratch0 ∗ some c cc0_scratch1 ∗ (∃ X, xfH c X) ∗ (∃ X, xbH c X) ∗ idle m c 0 ∗ idle m c 1
    ∗ (∃ f, pt c (aW 0) f) ∗ (∃ f, pt c (aW 1) f) ∗ outR c 0 (TO m c 0) ∗ outR c 1 (TO m c 1)
    ∗ sem0 c cinS ∗ sem0 c coutS ∗ sem0 c xS ∗ sem0 c (outS 0) ∗ sem0 c (outS 1))

def bodyAt (d : Dev nD) : PR F PUnit := do
  prog10 d
  let _ ← prog11 d
  prog12 d
  prog13 d
  let _ ← prog14 d
  let _ ← prog15 d
  let _ ← prog16 d
  prog17 d
  prog18 d
  prog19 d
  prog20 d
  pure ⟨⟩

set_option maxHeartbeats 4000000 in
theorem bodyAt_spec (c : Dev nD) (Q : PUnit → sProp 𝕄) :
    iprop(records m K ∗ levAts L lv ∗ owed c (O₀ c) ∗ Start m c ∗ ((owed c 0 ∗ End m c) -∗ Q ⟨⟩)) ⊢ runs c (bodyAt c) Q := by
  unfold bodyAt prog10 prog11 prog12 prog13 prog14 prog15 prog16 prog17 prog18 prog19 prog20
  simp only [runs_bind, runs_pure_runs]
  unfold Start
  iintro ⟨#HR, #Hl, HO, ⟨HcB, HaB, Hg0, Hg1, Hg2, ⟨Hp0, Hp1, Hp2, Hp3, Hp4, Hp5⟩, ⟨Hi0, Hi1, Hi2, Hi3, Hi4, Hi5⟩, ⟨Ht0, Ht1, Ht2, Ht3, Ht4, Ht5⟩,
    Hx, Hf0, Hf1, Hxf, Hxb, Hw0, Hw1, ⟨%A0, Ha0⟩, ⟨%A1, Ha1⟩, Ho0, Ho1, Hci, Hco, Hxs, Hs0, Hs1⟩, Hk⟩
  iapply (meet_spec m K c)
  isplitr; · iexact HR
  isplitr; · iexact Hl
  isplitl [HO]; · iexact HO
  isplitl [Hg0]; · iexact Hg0
  isplitl [Hg1]; · iexact Hg1
  isplitl [Hg2]; · iexact Hg2
  isplitl [HcB]; · iexact HcB
  isplitl [HaB]; · iexact HaB
  iintro ⟨HO, Hb0, Hb1, Hb2, HzB⟩
  iapply (halves_spec m K c)
  isplitr; · iexact HR
  isplitr; · iexact Hl
  isplitl [Hx Hf0 Hf1 Hci Hco HO]
  · unfold stg
    isplitl [Hx]; · iexact Hx
    isplitl [Hf0]; · iexact Hf0
    isplitl [Hf1]; · iexact Hf1
    isplitl [Hci]; · iexact Hci
    isplitl [Hco]; · iexact Hco
    iexact HO
  isplitl [Hb0]; · iexact Hb0
  isplitl [Hb1]; · iexact Hb1
  isplitl [Hb2]; · iexact Hb2
  isplitl [Hp0]; · iexact Hp0
  isplitl [Hp1]; · iexact Hp1
  isplitl [Hp2]; · iexact Hp2
  isplitl [Hp3]; · iexact Hp3
  isplitl [Hp4]; · iexact Hp4
  isplitl [Hp5]; · iexact Hp5
  unfold stg
  iintro ⟨⟨Hx, Hf0, Hf1, Hci, Hco, HO⟩, Hc0, Hc1, Hc2, Hc3, Hc4, Hc5⟩
  iapply (own_spec m c 0 _ (loop1_spec m c) _ _ _ _ _ (k0_off4_eq c 0))
  isplitr; · iexact Hl
  isplitl [Hx]; · iexact Hx
  isplitl [Hxf]; · iexact Hxf
  isplitl [Hxs]; · iexact Hxs
  isplitl [Hw0]; · iexact Hw0
  isplitl [Hw1]; · iexact Hw1
  isplitl [Ha0]; · iexact Ha0
  isplitl [HO]; · iexact HO
  iintro ⟨Hx, Hxf, Hxs, Hw0, Hw1, Ha0, HO⟩
  iapply (own_spec m c 1 _ (loop2_spec m c) _ _ _ _ _ (k0_off4_eq c 1))
  isplitr; · iexact Hl
  isplitl [Hx]; · iexact Hx
  isplitl [Hxf]; · iexact Hxf
  isplitl [Hxs]; · iexact Hxs
  isplitl [Hw0]; · iexact Hw0
  isplitl [Hw1]; · iexact Hw1
  isplitl [Ha1]; · iexact Ha1
  isplitl [HO]; · iexact HO
  iintro ⟨Hx, Hxf, Hxs, Hw0, Hw1, Ha1, HO⟩
  iapply (stage_spec m K c 0 3 rfl _ (loop3_spec m c) _ _ _ _ _ _ _ _ (k0_off21_eq c 2) rfl)
  isplitr; · iexact HR
  isplitr; · iexact Hl
  isplitl [Hw0]; · iexact Hw0
  isplitl [Hw1]; · iexact Hw1
  isplitl [Hi0]; · iexact Hi0
  isplitl [Hxb]; · iexact Hxb
  isplitl [Hxs]; · iexact Hxs
  isplitl [Ha0]; · iexact Ha0
  isplitl [HO]; · iexact HO
  iintro ⟨Hw0, Hw1, Hi0, Hxb, Hxs, Ha0, HO⟩
  iapply (stage_spec m K c 1 3 rfl _ (loop4_spec m c) _ _ _ _ _ _ _ _ (k0_off29_eq c 2) rfl)
  isplitr; · iexact HR
  isplitr; · iexact Hl
  isplitl [Hw0]; · iexact Hw0
  isplitl [Hw1]; · iexact Hw1
  isplitl [Hi1]; · iexact Hi1
  isplitl [Hxb]; · iexact Hxb
  isplitl [Hxs]; · iexact Hxs
  isplitl [Ha1]; · iexact Ha1
  isplitl [HO]; · iexact HO
  iintro ⟨Hw0, Hw1, Hi1, Hxb, Hxs, Ha1, HO⟩
  iapply (stage_spec m K c 4 1 rfl _ (loop5_spec m c) _ _ _ _ _ _ _ _ (k0_off21_eq c 0) rfl)
  isplitr; · iexact HR
  isplitr; · iexact Hl
  isplitl [Hw0]; · iexact Hw0
  isplitl [Hw1]; · iexact Hw1
  isplitl [Hi4]; · iexact Hi4
  isplitl [Hxb]; · iexact Hxb
  isplitl [Hxs]; · iexact Hxs
  isplitl [Ha0]; · iexact Ha0
  isplitl [HO]; · iexact HO
  iintro ⟨Hw0, Hw1, Hi4, Hxb, Hxs, Ha0, HO⟩
  iapply (stage_spec m K c 5 1 rfl _ (loop6_spec m c) _ _ _ _ _ _ _ _ (k0_off29_eq c 0) rfl)
  isplitr; · iexact HR
  isplitr; · iexact Hl
  isplitl [Hw0]; · iexact Hw0
  isplitl [Hw1]; · iexact Hw1
  isplitl [Hi5]; · iexact Hi5
  isplitl [Hxb]; · iexact Hxb
  isplitl [Hxs]; · iexact Hxs
  isplitl [Ha1]; · iexact Ha1
  isplitl [HO]; · iexact HO
  iintro ⟨Hw0, Hw1, Hi5, Hxb, Hxs, Ha1, HO⟩
  iapply (stage_spec m K c 2 2 rfl _ (loop7_spec m c) _ _ _ _ _ _ _ _ (k0_off21_eq c 1) rfl)
  isplitr; · iexact HR
  isplitr; · iexact Hl
  isplitl [Hw0]; · iexact Hw0
  isplitl [Hw1]; · iexact Hw1
  isplitl [Hi2]; · iexact Hi2
  isplitl [Hxb]; · iexact Hxb
  isplitl [Hxs]; · iexact Hxs
  isplitl [Ha0]; · iexact Ha0
  isplitl [HO]; · iexact HO
  iintro ⟨Hw0, Hw1, Hi2, Hxb, Hxs, Ha0, HO⟩
  iapply (act_spec m c 0 _ (fun old k => tripS_spec c 0 k old _ _ (k0_off58_eq _)) _ _ _ rfl rfl)
  isplitl [Ha0]; · unfold T4 T3 T2; iexact Ha0
  isplitl [Ho0]; · iexact Ho0
  isplitl [Hs0]; · iexact Hs0
  iintro Ho0
  iapply (stage_spec m K c 3 2 rfl _ (loop9_spec m c) _ _ _ _ _ _ _ _ (k0_off29_eq c 1) rfl)
  isplitr; · iexact HR
  isplitr; · iexact Hl
  isplitl [Hw0]; · iexact Hw0
  isplitl [Hw1]; · iexact Hw1
  isplitl [Hi3]; · iexact Hi3
  isplitl [Hxb]; · iexact Hxb
  isplitl [Hxs]; · iexact Hxs
  isplitl [Ha1]; · iexact Ha1
  isplitl [HO]; · iexact HO
  iintro ⟨Hw0, Hw1, Hi3, Hxb, Hxs, Ha1, HO⟩
  iapply (act_spec m c 1 _ (fun old k => tripS_spec c 1 k old _ _ (k0_off66_eq _)) _ _ _ rfl rfl)
  isplitl [Ha1]; · unfold T4 T3 T2; iexact Ha1
  isplitl [Ho1]; · iexact Ho1
  isplitl [Hs1]; · iexact Hs1
  iintro Ho1
  iapply (outDone_spec c 0 (TO m c 0) _ _ _ rfl rfl)
  isplitl [Ho0]; · iexact Ho0
  isplitl [HO]; · iexact HO
  isplitr; · iexact Hl
  iintro ⟨Ho0, Ha0, Hs0, HO⟩
  iapply (outDone_spec c 1 (TO m c 1) _ _ _ rfl rfl)
  isplitl [Ho1]; · iexact Ho1
  isplitl [HO]; · iexact HO
  isplitr; · iexact Hl
  iintro ⟨Ho1, Ha1, Hs1, HO⟩
  iapply (sent_spec m K c 0 _ _ _ _ _ _ _ rfl)
  isplitr; · iexact HR
  isplitl [HO]; · iexact HO
  isplitl [Hc0]; · iexact Hc0
  isplitl [Ht0]; · iexact Ht0
  iintro ⟨HO, Hc0⟩
  iapply (sent_spec m K c 1 _ _ _ _ _ _ _ rfl)
  isplitr; · iexact HR
  isplitl [HO]; · iexact HO
  isplitl [Hc1]; · iexact Hc1
  isplitl [Ht1]; · iexact Ht1
  iintro ⟨HO, Hc1⟩
  iapply (sent_spec m K c 2 _ _ _ _ _ _ _ rfl)
  isplitr; · iexact HR
  isplitl [HO]; · iexact HO
  isplitl [Hc2]; · iexact Hc2
  isplitl [Ht2]; · iexact Ht2
  iintro ⟨HO, Hc2⟩
  iapply (sent_spec m K c 3 _ _ _ _ _ _ _ rfl)
  isplitr; · iexact HR
  isplitl [HO]; · iexact HO
  isplitl [Hc3]; · iexact Hc3
  isplitl [Ht3]; · iexact Ht3
  iintro ⟨HO, Hc3⟩
  iapply (sent_spec m K c 4 _ _ _ _ _ _ _ rfl)
  isplitr; · iexact HR
  isplitl [HO]; · iexact HO
  isplitl [Hc4]; · iexact Hc4
  isplitl [Ht4]; · iexact Ht4
  iintro ⟨HO, Hc4⟩
  iapply (sent_spec m K c 5 _ _ _ _ _ _ _ rfl)
  isplitr; · iexact HR
  isplitl [HO]; · iexact HO
  isplitl [Hc5]; · iexact Hc5
  isplitl [Ht5]; · iexact Ht5
  iintro ⟨HO, Hc5⟩
  iapply (runs_pure c)
  iapply Hk
  unfold End
  isplitl [HO]; · iexact HO
  isplitl [HzB]; · iexact HzB
  isplitl [Hc0 Hc1 Hc2 Hc3 Hc4 Hc5]
  · isplitl [Hc0]; · iexact Hc0
    isplitl [Hc1]; · iexact Hc1
    isplitl [Hc2]; · iexact Hc2
    isplitl [Hc3]; · iexact Hc3
    isplitl [Hc4]; · iexact Hc4
    iexact Hc5
  isplitl [Hi0 Hi1 Hi2 Hi3 Hi4 Hi5]
  · isplitl [Hi0]; · iexact Hi0
    isplitl [Hi1]; · iexact Hi1
    isplitl [Hi2]; · iexact Hi2
    isplitl [Hi3]; · iexact Hi3
    isplitl [Hi4]; · iexact Hi4
    iexact Hi5
  isplitl [Hx]; · iexact Hx
  isplitl [Hf0]; · iexact Hf0
  isplitl [Hf1]; · iexact Hf1
  isplitl [Hxf]; · iexact Hxf
  isplitl [Hxb]; · iexact Hxb
  isplitl [Hw0]; · iexact Hw0
  isplitl [Hw1]; · iexact Hw1
  isplitl [Ha0]; · iexact Ha0
  isplitl [Ha1]; · iexact Ha1
  isplitl [Ho0]; · iexact Ho0
  isplitl [Ho1]; · iexact Ho1
  isplitl [Hci]; · iexact Hci
  isplitl [Hco]; · iexact Hco
  isplitl [Hxs]; · iexact Hxs
  isplitl [Hs0]; · iexact Hs0
  iexact Hs1

end Cert.A2A

end
-- ==== Proof.Alloc.lean ====
/-
The cells' accounts made at launch and dealt to the devices.
-/
module

public import proofs.«01_k».proof.Proof.Body
public import Idealize.ShloMosaic.Lib.Quiescent

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

local notation "𝕄" => MT nD τ sig Unit (Elt F) ℕ UU ℕ

variable (m : (ℓ : Loc nD τ sig) → Buf (Elt F) ℓ) (K : Dev nD × Fin 13 → ℕ)

/-! ## Sums and families -/

theorem bigSep_two (Φ : Fin 2 → sProp 𝕄) : bigSep Finset.univ Φ = iprop(Φ 0 ∗ Φ 1) := bigSep_univ_eq_bigSepL [0, 1] (by decide) (by decide) Φ
theorem bigSep_three (Φ : Fin 3 → sProp 𝕄) : bigSep Finset.univ Φ = iprop(Φ 0 ∗ Φ 1 ∗ Φ 2) := bigSep_univ_eq_bigSepL [0, 1, 2] (by decide) (by decide) Φ
theorem bigSep_six (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

/-- All devices moved `n` on. -/
def turn (n : ℕ) : Dev nD ≃ Dev nD where
  toFun c := add c n
  invFun c := add c (4 - n % 4)
  left_inv c := by
    show add (add c n) _ = c
    rw [add_add]; exact add_four c (by omega)
  right_inv c := by
    show add (add c _) n = c
    rw [add_add]; exact add_four c (by omega)

theorem swap {I J : Type} [Fintype I] [Fintype J] [DecidableEq I] [DecidableEq J] (Φ : I → J → sProp 𝕄) :
    (bigSep Finset.univ fun i => bigSep Finset.univ fun j => Φ i j) = bigSep Finset.univ fun j => bigSep Finset.univ fun i => Φ i j := by
  rw [← bigSep_univ_prod fun p : I × J => Φ p.1 p.2, bigSep_univ_equiv (Equiv.prodComm J I), bigSep_univ_prod]
  rfl

/-- Dealing a family around: each device takes member `e` of the device `n e` on. -/
theorem around {J : Type} [Fintype J] [DecidableEq J] (n : J → ℕ) (Φ : Dev nD → J → sProp 𝕄) :
    (bigSep Finset.univ fun c => bigSep Finset.univ fun e => Φ c e) = bigSep Finset.univ fun c => bigSep Finset.univ fun e => Φ (add c (n e)) e := by
  rw [swap, swap fun c e => Φ (add c (n e)) e]
  exact bigSep_congr fun e _ => bigSep_univ_equiv (turn (n e)) fun c => Φ c e

/-- Each member of a family made what it should be beside persistent facts. -/
theorem beside {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-! ## The cells and their tokens -/

theorem csem_inj : ∀ k k' : Fin 13, csem k = csem k' → k = k' := by decide +kernel
theorem kcell_injective : Function.Injective (kcell : Dev nD × Fin 13 → GSem nD τ sig) := fun a b h =>
  Prod.ext (congrArg (fun g : GSem nD τ sig => g.1.1) h) (csem_inj _ _ (congrArg Prod.snd h))
def allCells : Finset (GSem nD τ sig) := Finset.univ.map ⟨kcell, kcell_injective⟩

/-- A device's duties: its sends', its receives', its barrier's three. -/
abbrev Dut : Type := Fin 6 ⊕ Fin 6 ⊕ Fin 3
def dutSem : Dut → SemLoc sig × Fin 3
  | .inl e => (.dma (sendD e), 0)
  | .inr (.inl e) => (.dma (recvD e), 0)
  | .inr (.inr e) => (.reg barS, e)
theorem dutSem_inj : ∀ k k' : Dut, dutSem k = dutSem k' → k = k' := by decide +kernel
def tokOf (ck : Dev nD × Dut) : GSem nD τ sig × ℕ × Fin 3 := (((ck.1 : Thread nD τ), (dutSem ck.2).1), 0, (dutSem ck.2).2)
theorem tokOf_injective : Function.Injective tokOf := fun a b h =>
  Prod.ext (congrArg (fun x : GSem nD τ sig × ℕ × Fin 3 => x.1.1.1) h)
    (dutSem_inj _ _ (Prod.ext (congrArg (fun x : GSem nD τ sig × ℕ × Fin 3 => x.1.2) h) (congrArg (fun x : GSem nD τ sig × ℕ × Fin 3 => x.2.2) h)))
def allToks : Finset (GSem nD τ sig × ℕ × Fin 3) := Finset.univ.map ⟨tokOf, tokOf_injective⟩

def u₀ : UU := (initOf (Pipeline.cells cfgs cellOf_inj) (Pipeline.launchToks cfgs cellOf_inj), (initOf allCells allToks, 1))

/-- The tokens of a device's own cells, -/
def toks (c : Dev nD) : sProp 𝕄 :=
  iprop((bigSep Finset.univ fun e : Fin 6 => dutyTok ER (sendC c e) 0 0) ∗ (bigSep Finset.univ fun e : Fin 6 => dutyTok ER (recvC c e) 0 0)
    ∗ bigSep Finset.univ fun e : Fin 3 => dutyTok ER (barC c) 0 e)
/-- and of those it pays. -/
def payToks (c : Dev nD) : sProp 𝕄 :=
  iprop((bigSep Finset.univ fun e : Fin 6 => dutyTok ER (sendC c e) 0 0) ∗ (bigSep Finset.univ fun e : Fin 6 => dutyTok ER (recvC (tgt c e) e) 0 0)
    ∗ bigSep Finset.univ fun e : Fin 3 => dutyTok ER (barC (add c (e.val + 1))) 0 (Fin.rev e))

theorem toks_around : (bigSep Finset.univ fun c : Dev nD => (toks c : sProp 𝕄)) = bigSep Finset.univ fun c : Dev nD => payToks c := by
  unfold toks payToks
  rw [bigSep_sep', bigSep_sep', bigSep_sep', bigSep_sep', around (fun e : Fin 6 => e.val / 2 + 1) fun c e => (dutyTok ER (recvC c e) 0 0 : sProp 𝕄),
    ← around (fun e : Fin 3 => e.val + 1) fun c e => (dutyTok ER (barC c) 0 (Fin.rev e) : sProp 𝕄),
    bigSep_congr (s := Finset.univ) fun (c : Dev nD) _ => bigSep_univ_equiv Fin.revPerm fun e : Fin 3 => (dutyTok ER (barC c) 0 e : sProp 𝕄)]
  rfl

/-- What a device gets of the accounts made at launch. -/
def G (c : Dev nD) : sProp 𝕄 :=
  iprop((bigSep Finset.univ fun k : Fin 13 => roundState ER (rd m) (kcell (c, k)) 0)
    ∗ (bigSep Finset.univ fun k : Fin 13 => iprop(atPos ER (kcell (c, k)) 0 ∅ 0 ∗ reached ER (kcell (c, k)) 0)) ∗ toks c)

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Fin 13 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    refine bigSep_congr fun c _ => ?_
    unfold toks
    rw [bigSep_univ_sum, bigSep_univ_sum]
    rfl
  iintro HX
  imod (Rounds.fund ER (rd m) allCells allToks) $$ HX with ⟨Hst, Hr, Hat, Htok⟩
  imodintro
  ihave Hst := (Entails.of_eq (hX fun g => roundState ER (rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

/-- The semaphores of the device's own copies. -/
def own0 (c : Dev nD) : sProp 𝕄 :=
  iprop(sem0 c cinS ∗ sem0 c coutS ∗ sem0 c xS ∗ sem0 c (wS 0) ∗ sem0 c (wS 1) ∗ sem0 c (outS 0) ∗ sem0 c (outS 1))

theorem own_list (Φ : Fin 19 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18) :=
  bigSep_univ_eq_bigSepL [0, 1, 2, 3, 4, 5, 6, 7, 8, 9, 10, 11, 12, 13, 14, 15, 16, 17, 18] (by decide) (by decide) Φ
theorem unscopedSems0_eq (c : Dev nD) : (unscopedSems0 c : sProp 𝕄) = semVal (barC c) 0 := by
  unfold unscopedSems0; rw [bigSep_eq_bigSepL_of_eq [SemLoc.reg barS] (by decide) (by decide)]; rfl
theorem cells_list (Φ : Fin 13 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12) :=
  bigSep_univ_eq_bigSepL [0, 1, 2, 3, 4, 5, 6, 7, 8, 9, 10, 11, 12] (by decide) (by decide) Φ

theorem sems0_eq (c : Dev nD) :
    iprop(Pipeline.ownSems0 (Ix := Unit) (Name := ℕ) (U := UU) (Lvl := ℕ) (Val := Elt F) (τ := τ) osem c ∗ unscopedSems0 c)
      ⊢ (iprop((bigSep Finset.univ fun k : Fin 13 => semVal (kcell (c, k)) 0) ∗ own0 c) : sProp 𝕄) := by
  unfold Pipeline.ownSems0
  rw [own_list, unscopedSems0_eq, cells_list]
  unfold own0
  iintro ⟨⟨H0, H1, H2, H3, H4, H5, H6, H7, H8, H9, H10, H11, H12, H13, H14, H15, H16, H17, H18⟩, HB⟩
  isplitl [H0 H1 H2 H3 H4 H5 H6 H7 H8 H9 H10 H11 HB]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact HB
  isplitl [H12]; · iexact H12
  isplitl [H13]; · iexact H13
  isplitl [H14]; · iexact H14
  isplitl [H15]; · iexact H15
  isplitl [H16]; · iexact H16
  isplitl [H17]; · iexact H17
  iexact H18

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (rd m) κ (kcell (c, k))))
          ∗ (bigSep Finset.univ fun k => iprop(atPos ER (kcell (c, k)) 0 ∅ 0 ∗ reached ER (kcell (c, k)) 0)) ∗ toks c ∗ own0 c) := by
  unfold G
  iintro ⟨Hos, Hus, Hst, Hat, Htok⟩
  ihave ⟨Hv, Ho⟩ := (sems0_eq (F := F) c) $$ [Hos Hus]
  · isplitl [Hos] <;> iassumption
  imod (show iprop((bigSep Finset.univ fun k : Fin 13 => semVal (kcell (c, k)) 0) ∗ bigSep Finset.univ fun k : Fin 13 => roundState ER (rd m) (kcell (c, k)) 0)
      ⊢ (|={Set.univ}=> bigSep Finset.univ fun k => iprop(∃ κ : ℕ, cellInv ER (rd m) κ (kcell (c, k))) : sProp 𝕄) from by
        rw [← bigSep_sep']
        exact (bigSep_mono fun k _ => (Rounds.body_intro ER (rd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Ho

/-- What a device starts from besides its memory. -/
def G' (c : Dev nD) : sProp 𝕄 :=
  iprop(∃ K, records m K ∗ (bigSep Finset.univ fun k : Fin 13 => atPos ER (kcell (c, k)) 0 ∅ 0) ∗ payToks c ∗ own0 c)

theorem regroup :
    (bigSep Finset.univ fun c : Dev nD => iprop((bigSep Finset.univ fun k => iprop(∃ κ : ℕ, cellInv ER (rd m) κ (kcell (c, k))))
          ∗ (bigSep Finset.univ fun k => iprop(atPos ER (kcell (c, k)) 0 ∅ 0 ∗ reached ER (kcell (c, k)) 0)) ∗ toks c ∗ own0 c) : sProp 𝕄)
      ⊢ bigSep Finset.univ (G' m) := by
  rw [bigSep_sep', bigSep_sep', bigSep_sep', ← bigSep_univ_prod (fun ck : Dev nD × Fin 13 => iprop(∃ κ : ℕ, cellInv ER (rd m) κ (kcell ck))),
    bigSep_congr (s := Finset.univ) (fun (c : Dev nD) _ => bigSep_sep' Finset.univ (fun k : Fin 13 => (atPos ER (kcell (c, k)) 0 ∅ 0 : sProp 𝕄)) (fun k => reached ER (kcell (c, k)) 0)),
    bigSep_sep', ← bigSep_univ_prod (fun ck : Dev nD × Fin 13 => (reached ER (kcell ck) 0 : sProp 𝕄)), toks_around]
  iintro ⟨HI, ⟨Hat, #HR⟩, Htok, Ho⟩
  ihave HK := (BI.bigSep_exists_pi Finset.univ (fun (ck : Dev nD × Fin 13) (κ : ℕ) => (cellInv ER (rd m) κ (kcell ck) : sProp 𝕄))) $$ HI
  icases HK with ⟨%K, #HI⟩
  iapply (beside (R := records m K) (Φ := fun c : Dev nD => iprop((bigSep Finset.univ fun k : Fin 13 => atPos ER (kcell (c, k)) 0 ∅ 0) ∗ payToks c ∗ own0 c))
    fun c _ => by unfold G'; iintro ⟨#HR, H⟩; iexists K; isplitr; · iexact HR
                  iexact H)
  isplitr
  · unfold records; rw [bigSep_sep']
    isplitl; · iexact HI
    iexact HR
  · rw [bigSep_sep', bigSep_sep']
    isplitl [Hat]; · iexact Hat
    isplitl [Htok]; · iexact Htok
    iexact Ho

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch's credit -/

theorem bar_ne_recv (a b : Dev nD) (e : Fin 6) : barC a ≠ recvC b e := fun h => by cases congrArg Prod.snd h
theorem recv_eq_iff {a b : Dev nD} {e e' : Fin 6} : Iff (recvC a e = recvC b e') (a = b ∧ e = e') :=
  ⟨fun h => ⟨congrArg (fun g : GSem nD τ sig => g.1.1) h, by
      have h2 : (SemLoc.dma (recvD e) : SemLoc sig) = .dma (recvD e') := congrArg Prod.snd h
      have h3 : 6 + e.val = 6 + e'.val := congrArg (fun s : SemLoc sig => match s with | .dma k => k.val | .reg _ => 0) h2
      exact Fin.ext (by omega)⟩, fun h => by rw [h.1, h.2]⟩
theorem bar_eq_iff {a b : Dev nD} : Iff (barC a = barC b) (a = b) := ⟨fun h => congrArg (fun g : GSem nD τ sig => g.1.1) h, fun h => h ▸ rfl⟩

theorem OL_recv (d c : Dev nD) (e : Fin 6) (l : List (Fin 6)) : OL d l (recvC c e) () = l.count e * if tgt d e = c then NH else 0 := by
  induction l with
  | nil => rw [List.count_nil, Nat.zero_mul]; rfl
  | cons e' l ih =>
    show (OL d l + tallyAt (recvC (tgt d e') e') () NH) (recvC c e) () = _
    rw [Pi.add_apply, Finsupp.add_apply, ih, tallyAt_apply, List.count_cons]
    by_cases he : e' = e
    · subst he
      rw [if_pos (beq_self_eq_true _), Nat.add_mul, Nat.one_mul]
      congr 1
      by_cases hc : tgt d e' = c
      · rw [if_pos hc, if_pos ⟨by rw [hc], rfl⟩]
      · rw [if_neg hc, if_neg fun h => hc (recv_eq_iff.mp h.1).1.symm]
    · rw [if_neg (c := recvC c e = _ ∧ _) (fun h => he (recv_eq_iff.mp h.1).2.symm), if_neg (c := (e' == e) = true) (fun h => he (beq_iff_eq.mp h)), Nat.add_zero, Nat.add_zero]
theorem OL_bar (d c : Dev nD) (l : List (Fin 6)) : OL d l (barC c) () = 0 := by
  induction l with
  | nil => rfl
  | cons e' l ih =>
    show (OL d l + tallyAt (recvC (tgt d e') e') () NH) (barC c) () = _
    rw [Pi.add_apply, Finsupp.add_apply, ih, tallyAt_ne_cell (bar_ne_recv _ _ _)]; rfl
theorem owed_recv (d c : Dev nD) (e : Fin 6) : O₀ d (recvC c e) () = if tgt d e = c then NH else 0 := by
  show (OL d [0, 1, 2, 3, 4, 5] + tallyAt (barC (add d _)) () 1 + tallyAt (barC (add d _)) () 1 + tallyAt (barC (add d _)) () 1) (recvC c e) () = _
  simp only [Pi.add_apply, Finsupp.add_apply]
  rw [OL_recv, tallyAt_ne_cell (bar_ne_recv _ _ _).symm, tallyAt_ne_cell (bar_ne_recv _ _ _).symm, tallyAt_ne_cell (bar_ne_recv _ _ _).symm,
    show List.count e [0, 1, 2, 3, 4, 5] = 1 by revert e; decide]
  exact Nat.one_mul _
theorem owed_bar (d c : Dev nD) : O₀ d (barC c) () = ((if add d 3 = c then 1 else 0) + if add d 2 = c then 1 else 0) + if add d 1 = c then 1 else 0 := by
  have h (n : ℕ) : (tallyAt (barC (add d n)) () 1 : CellTallies nD τ sig Unit) (barC c) () = if add d n = c then 1 else 0 := by
    rw [tallyAt_apply]
    exact if_congr ⟨fun h => (bar_eq_iff.mp h.1).symm, fun h => ⟨by rw [h], rfl⟩⟩ rfl rfl
  show (OL d [0, 1, 2, 3, 4, 5] + tallyAt (barC (add d 3)) () 1 + tallyAt (barC (add d 2)) () 1 + tallyAt (barC (add d 1)) () 1) (barC c) () = _
  simp only [Pi.add_apply, Finsupp.add_apply]
  rw [OL_bar, h, h, h, Nat.zero_add]

theorem launch_bar (c : Dev nD) :
    tallyOn (barC c) (launchCredit (Pipeline.owing O₀) 0 (barC c)) = (tallyAt (barC c) () 3 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide +kernel
theorem launch_recv (c : Dev nD) (e : Fin 6) :
    tallyOn (recvC c e) (launchCredit (Pipeline.owing O₀) 0 (recvC c e)) = (tallyAt (recvC c e) () NH : CellTallies nD τ sig Unit) := by
  unfold tallyAt; refine congrArg _ (Finsupp.ext fun u => ?_); cases u
  rw [Pipeline.launchCredit_owing, Finsupp.single_eq_same, Finset.sum_congr rfl fun d _ => owed_recv d c e, Finset.sum_eq_single (origin c e)]
  · rw [if_pos]
    show add (add c _) _ = c
    rw [add_add]; exact add_four c (by have := e.isLt; omega)
  · intro d _ hd
    rw [if_neg]
    rintro rfl
    exact hd (origin_tgt d e).symm
  · exact fun h => absurd (Finset.mem_univ _) h

def recvSem : Fin 6 ↪ SemLoc sig := ⟨fun e => .dma (recvD e), by
  intro a b h
  exact (recv_eq_iff (a := (0 : Dev nD)) (b := 0)).mp (congrArg (Prod.mk ((0 : Dev nD) : Thread nD τ)) h) |>.2⟩

theorem creds (c : Dev nD) :
    (Pipeline.launchCred O₀ c : sProp 𝕄) ⊢ iprop(cred (tallyAt (barC c) () 3) ∗ bigSep Finset.univ fun e : Fin 6 => cred (tallyAt (recvC c e) () NH)) := by
  unfold Pipeline.launchCred
  rw [bigSep_univ_at _ (SemLoc.reg barS), launch_bar]
  refine sep_mono_right ?_
  rw [bigSep_congr (s := Finset.univ) fun (e : Fin 6) _ => congrArg cred (launch_recv c e).symm]
  have h := bigSep_map (s := Finset.univ) recvSem (Φ := fun sm => (cred (tallyOn ((c : Thread nD τ), sm) (launchCredit (Pipeline.owing O₀) 0 ((c : Thread nD τ), sm))) : sProp 𝕄))
  refine BI.Entails.trans ?_ (Entails.of_eq h)
  refine bigSep_subset fun s hs => ?_
  obtain ⟨e, -, rfl⟩ := Finset.mem_map.mp hs
  exact Finset.mem_erase.mpr ⟨fun h => (bar_ne_recv c c e) (congrArg (Prod.mk (c : Thread nD τ)) h.symm), Finset.mem_univ _⟩

end Cert.A2A

end
-- ==== Proof.Launch.lean ====
/-
The devices' memory dealt at launch, and the run.
-/
module

public import proofs.«01_k».proof.Proof.Alloc
public import proofs.«01_k».proof.Proof.Gen.KernelIdeal.Points
public import Idealize.ShloMosaic.Lib.Pipeline.CollectiveSegs

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Idealize.ShloMosaic.Transfers (Flight)

variable {F : FTy → Type} [FloatOps F]

local notation "𝕄" => MT nD τ sig Unit (Elt F) ℕ UU ℕ

variable (m : (ℓ : Loc nD τ sig) → Buf (Elt F) ℓ) (K : Dev nD × Fin 13 → ℕ)

/-! ## The buffers split and joined -/

/-- A whole buffer dealt to disjoint parts. -/
theorem deal {ℓ : Loc nD τ sig} {T : Type} [Fintype T] [DecidableEq T] (P : T → Finset (Idx ℓ)) (h : ∀ t t', t ≠ t' → Disjoint (P t) (P t')) (f : Buf (Elt F) ℓ) :
    (ℓ ↦{fullShare} f : sProp 𝕄) ⊢ bigSep Finset.univ fun t => (ℓ ↦[P t]{fullShare} f) := by
  iintro H
  ihave ⟨H1, H2⟩ := (pointsTo_split_subset (Finset.subset_univ (Finset.univ.biUnion P))).1 $$ H
  iapply (Entails.of_eq (pointsTo_biUnion Finset.univ P fun t _ t' _ => h t t'))
  iexact H1

/-- Two disjoint parts that are all of a buffer joined. -/
theorem join {ℓ : Loc nD τ sig} (P : Fin 2 → Finset (Idx ℓ)) (hd : Disjoint (P 0) (P 1)) (hu : ∀ i, i ∈ P 0 ∨ i ∈ P 1) :
    iprop((∃ f : Buf (Elt F) ℓ, ℓ ↦[P 0]{fullShare} f) ∗ (∃ f : Buf (Elt F) ℓ, ℓ ↦[P 1]{fullShare} f)) ⊢ (iprop(∃ f : Buf (Elt F) ℓ, ℓ ↦{fullShare} f) : sProp 𝕄) := by
  iintro ⟨⟨%f, H0⟩, ⟨%g, H1⟩⟩
  iexists ((P 1).piecewise g f)
  iapply ((pointsTo_join hd).trans (Entails.of_eq (by rw [Finset.eq_univ_of_forall fun i => Finset.mem_union.mpr (hu i)])))
  isplitl [H0] <;> iassumption

theorem gW_disj {s s' : Dev nD} {h h' : Fin 2} (hn : s ≠ s' ∨ h ≠ h') : Disjoint (gW s h).view.set (gW s' h').view.set := by
  rw [gH_set, gH_set]
  rcases hn with hn | hn
  · exact Rect.unit_disjoint 0 (by have := Fin.val_ne_of_ne hn; simp; omega)
  · exact Rect.unit_disjoint 1 (by have := Fin.val_ne_of_ne hn; have := h.isLt; have := h'.isLt; simp; omega)
theorem sW_disj {e e' : Fin 6} (hn : e ≠ e') : Disjoint (sW (hi e) (lo e)).view.set (sW (hi e') (lo e')).view.set := by
  have h1 := Fin.val_ne_of_ne hn
  rw [sH_set, sH_set]
  by_cases h : e.val / 2 = e'.val / 2
  · exact Rect.unit_disjoint 1 (by simp; omega)
  · exact Rect.unit_disjoint 0 (by simp; omega)
theorem aW_disj {h h' : Fin 2} (hn : h ≠ h') : Disjoint (aW h).view.set (aW h').view.set := by
  rw [aH_set, aH_set]
  exact Rect.unit_disjoint 0 (by have := Fin.val_ne_of_ne hn; simp; omega)
theorem oW_disj {h h' : Fin 2} (hn : h ≠ h') : Disjoint (oW h).view.set (oW h').view.set := by
  rw [oH_set, oH_set]
  exact Rect.unit_disjoint 0 (by have := Fin.val_ne_of_ne hn; simp; omega)
theorem pW_disj {p p' : Fin 2} (hn : p ≠ p') : Disjoint (pW p).view.set (pW p').view.set := by
  rw [slot_set, slot_set]
  exact Rect.unit_disjoint 0 (by have := Fin.val_ne_of_ne hn; simp; omega)

theorem aW_all (i : S2048x4096.Idx) : i ∈ (aW 0).view.set ∨ i ∈ (aW 1).view.set := by
  rw [aH_set, aH_set, Rect.mem_set_unit, Rect.mem_set_unit]
  have h0 : (i 0).val < 2048 := (i 0).isLt
  have h1 : (i 1).val < 4096 := (i 1).isLt
  by_cases h : (i 0).val < 1024
  · exact .inl fun a => by fin_cases a <;> simp <;> omega
  · exact .inr fun a => by fin_cases a <;> simp <;> omega
theorem pW_all (i : S2x2048x512.Idx) : i ∈ (pW 0).view.set ∨ i ∈ (pW 1).view.set := by
  rw [slot_set, slot_set, Rect.mem_set_unit, Rect.mem_set_unit]
  have h0 : (i 0).val < 2 := (i 0).isLt
  have h1 : (i 1).val < 2048 := (i 1).isLt
  have h2 : (i 2).val < 512 := (i 2).isLt
  by_cases h : (i 0).val < 1
  · exact .inl fun a => by fin_cases a <;> simp <;> omega
  · exact .inr fun a => by fin_cases a <;> simp <;> omega

/-- A part at some contents. -/
abbrev anyP (c : Dev nD) {sp : Space} {s : Shape} {e : EltTy} (w : Memref sig .tc sp s e) : sProp 𝕄 := iprop(∃ f, pt c w f)
theorem gather_split (c : Dev nD) (f) : (((c : Thread nD τ).loc main_v1_1) ↦{fullShare} f : sProp 𝕄)
    ⊢ iprop((anyP c (gW (add c 1) 0) ∗ anyP c (gW (add c 1) 1)) ∗ (anyP c (gW (add c 2) 0) ∗ anyP c (gW (add c 2) 1)) ∗ (anyP c (gW (add c 3) 0) ∗ anyP c (gW (add c 3) 1))) := by
  refine (deal (T := Fin 3 × Fin 2) (fun t => (gW (add c (t.1.val + 1)) t.2).view.set) (fun t t' hn => gW_disj ?_) f).trans ?_
  · by_contra hc
    rw [not_or, not_not, not_not] at hc
    have h1 : (c.val + (t.1.val + 1)) % 4 = (c.val + (t'.1.val + 1)) % 4 := congrArg Fin.val hc.1
    have h2 := t.1.isLt
    have h3 := t'.1.isLt
    exact hn (Prod.ext (Fin.ext (by omega)) hc.2)
  · rw [bigSep_univ_prod, bigSep_three, bigSep_two, bigSep_two, bigSep_two]
    iintro ⟨⟨H0, H1⟩, ⟨H2, H3⟩, ⟨H4, H5⟩⟩
    isplitl [H0 H1]
    · isplitl [H0]
      · iexists f; iexact H0
      · iexists f; iexact H1
    isplitl [H2 H3]
    · isplitl [H2]
      · iexists f; iexact H2
      · iexists f; iexact H3
    · isplitl [H4]
      · iexists f; iexact H4
      · iexists f; iexact H5

theorem stage_split (c : Dev nD) (f) : (((c : Thread nD τ).loc main_v1_2) ↦{fullShare} f : sProp 𝕄)
    ⊢ bigSep Finset.univ fun e : Fin 6 => anyP c (sW (hi e) (lo e)) := by
  refine (deal (fun e : Fin 6 => (sW (hi e) (lo e)).view.set) (fun t t' hn => sW_disj hn) f).trans ?_
  rw [bigSep_six, bigSep_six]
  iintro ⟨H0, H1, H2, H3, H4, H5⟩
  isplitl [H0]; · iexists f; iexact H0
  isplitl [H1]; · iexists f; iexact H1
  isplitl [H2]; · iexists f; iexact H2
  isplitl [H3]; · iexists f; iexact H3
  isplitl [H4]; · iexists f; iexact H4
  iexists f; iexact H5

theorem out_split (c : Dev nD) (f) : (((c : Thread nD τ).loc main_v1_0) ↦{fullShare} f : sProp 𝕄) ⊢ iprop(anyP c (oW 0) ∗ anyP c (oW 1)) := by
  refine (deal (fun h : Fin 2 => (oW h).view.set) (fun t t' hn => oW_disj hn) f).trans ?_
  rw [bigSep_two]
  iintro ⟨H0, H1⟩
  isplitl [H0]
  · iexists f; iexact H0
  · iexists f; iexact H1

theorem acc_split (c : Dev nD) : (some c cc0_scratch5 : sProp 𝕄) ⊢ iprop((∃ A, accR c 0 A) ∗ ∃ A, accR c 1 A) := by
  iintro ⟨%f, H⟩
  ihave H := (deal (fun h : Fin 2 => (aW h).view.set) (fun t t' hn => aW_disj hn) f) $$ H
  ihave ⟨H0, H1⟩ := (Entails.of_eq (bigSep_two _)) $$ H
  unfold accR
  isplitl [H0]
  · iexists _; iexists f
    isplitr; · ipureintro; exact fun n => rfl
    iexact H0
  · iexists _; iexists f
    isplitr; · ipureintro; exact fun n => rfl
    iexact H1

theorem acc_join (c : Dev nD) : iprop(anyP c (aW 0) ∗ anyP c (aW 1)) ⊢ (some c cc0_scratch5 : sProp 𝕄) :=
  join (ℓ := (c : Thread nD τ).loc cc0_scratch5) (fun h : Fin 2 => (aW h).view.set) (aW_disj (by decide)) aW_all

theorem slots_split (c : Dev nD) : (some c cc0_scratch4 : sProp 𝕄) ⊢ iprop(anyP c (pW 0) ∗ anyP c (pW 1)) := by
  iintro ⟨%f, H⟩
  ihave H := (deal (fun h : Fin 2 => (pW h).view.set) (fun t t' hn => pW_disj hn) f) $$ H
  ihave ⟨H0, H1⟩ := (Entails.of_eq (bigSep_two _)) $$ H
  isplitl [H0]
  · iexists f; iexact H0
  · iexists f; iexact H1

theorem slots_join (c : Dev nD) : iprop(anyP c (pW 0) ∗ anyP c (pW 1)) ⊢ (some c cc0_scratch4 : sProp 𝕄) :=
  join (ℓ := (c : Thread nD τ).loc cc0_scratch4) (fun h : Fin 2 => (pW h).view.set) (pW_disj (by decide)) pW_all

/-! ## What a device starts from, ends with -/

/-- What a device has before its scratch buffers are its: the accounts, and its arrays as the memory has them. -/
def X (c : Dev nD) : sProp 𝕄 :=
  iprop(G' m c ∗ levAts L lv ∗ (cred (tallyAt (barC c) () 3) ∗ bigSep Finset.univ fun e : Fin 6 => cred (tallyAt (recvC c e) () NH))
    ∗ xAll m c ∗ (((c : Thread nD τ).loc main_arg1) ↦{fullShare} m ((c : Thread nD τ).loc main_arg1))
    ∗ some c main_v1_0 ∗ some c main_v1_1 ∗ some c main_v1_2)

def Φ₀ (c : Dev nD) : sProp 𝕄 := iprop(∃ K, records m K ∗ levAts L lv ∗ Start m c)

set_option maxHeartbeats 2000000 in
theorem start_of (c : Dev nD) : iprop(X m c ∗ Pipeline.scopedRest cfg0.spec c) ⊢ Φ₀ m c := by
  rw [scopedRest0_eq]
  unfold X G' payToks own0 Φ₀ Start
  rw [bigSep_six, bigSep_six, bigSep_six, bigSep_three, cells_list]
  iintro ⟨⟨⟨%K, #HR, ⟨Ha0, Ha1, Ha2, Ha3, Ha4, Ha5, Ha6, Ha7, Ha8, Ha9, Ha10, Ha11, Ha12⟩, ⟨⟨Ht0, Ht1, Ht2, Ht3, Ht4, Ht5⟩, ⟨Hr0, Hr1, Hr2, Hr3, Hr4, Hr5⟩, HB0, HB1, HB2⟩, Hci, Hco, Hxs, Hw0, Hw1, Ho0, Ho1⟩, #Hl, ⟨HcB, Hc0, Hc1, Hc2, Hc3, Hc4, Hc5⟩, Hx, Hw, ⟨%fo, Ho⟩, ⟨%fg, Hg⟩, ⟨%fs, Hs⟩⟩,
    H0, H1, H2, H3, H4, H5⟩
  ihave ⟨⟨Hg0, Hg1⟩, ⟨Hg2, Hg3⟩, ⟨Hg4, Hg5⟩⟩ := (gather_split c fg) $$ Hg
  ihave Hs := (stage_split c fs) $$ Hs
  ihave ⟨Hs0, Hs1, Hs2, Hs3, Hs4, Hs5⟩ := (Entails.of_eq (bigSep_six _)) $$ Hs
  ihave ⟨Hoa, Hob⟩ := (out_split c fo) $$ Ho
  ihave ⟨Ha, Hb⟩ := (acc_split c) $$ H5
  ihave ⟨Hp, Hq⟩ := (slots_split c) $$ H4
  ihave ⟨Hwa, Hwb⟩ := (wP_split m c).1 $$ Hw
  iexists K
  isplitr; · iexact HR
  isplitr; · iexact Hl
  isplitl [HcB]; · iexact HcB
  isplitl [Ha12]; · iexact Ha12
  isplitl [HB0 Hg0 Hg1]
  · unfold sigPre
    isplitl [HB0]; · iexact HB0
    isplitl [Hg0]; · iexact Hg0
    iexact Hg1
  isplitl [HB1 Hg2 Hg3]
  · unfold sigPre
    isplitl [HB1]; · iexact HB1
    isplitl [Hg2]; · iexact Hg2
    iexact Hg3
  isplitl [HB2 Hg4 Hg5]
  · unfold sigPre
    isplitl [HB2]; · iexact HB2
    isplitl [Hg4]; · iexact Hg4
    iexact Hg5
  isplitl [Hs0 Ht0 Hr0 Hs1 Ht1 Hr1 Hs2 Ht2 Hr2 Hs3 Ht3 Hr3 Hs4 Ht4 Hr4 Hs5 Ht5 Hr5]
  · isplitl [Hs0 Ht0 Hr0]
    · unfold rowPre
      isplitl [Hs0]; · iexact Hs0
      isplitl [Ht0]; · iexact Ht0
      iexact Hr0
    isplitl [Hs1 Ht1 Hr1]
    · unfold rowPre
      isplitl [Hs1]; · iexact Hs1
      isplitl [Ht1]; · iexact Ht1
      iexact Hr1
    isplitl [Hs2 Ht2 Hr2]
    · unfold rowPre
      isplitl [Hs2]; · iexact Hs2
      isplitl [Ht2]; · iexact Ht2
      iexact Hr2
    isplitl [Hs3 Ht3 Hr3]
    · unfold rowPre
      isplitl [Hs3]; · iexact Hs3
      isplitl [Ht3]; · iexact Ht3
      iexact Hr3
    isplitl [Hs4 Ht4 Hr4]
    · unfold rowPre
      isplitl [Hs4]; · iexact Hs4
      isplitl [Ht4]; · iexact Ht4
      iexact Hr4
    unfold rowPre
    isplitl [Hs5]; · iexact Hs5
    isplitl [Ht5]; · iexact Ht5
    iexact Hr5
  isplitl [Hc0 Ha6 Hc1 Ha7 Hc2 Ha8 Hc3 Ha9 Hc4 Ha10 Hc5 Ha11]
  · isplitl [Hc0 Ha6]
    · unfold rowIn
      isplitl [Hc0]; · iexact Hc0
      iexact Ha6
    isplitl [Hc1 Ha7]
    · unfold rowIn
      isplitl [Hc1]; · iexact Hc1
      iexact Ha7
    isplitl [Hc2 Ha8]
    · unfold rowIn
      isplitl [Hc2]; · iexact Hc2
      iexact Ha8
    isplitl [Hc3 Ha9]
    · unfold rowIn
      isplitl [Hc3]; · iexact Hc3
      iexact Ha9
    isplitl [Hc4 Ha10]
    · unfold rowIn
      isplitl [Hc4]; · iexact Hc4
      iexact Ha10
    unfold rowIn
    isplitl [Hc5]; · iexact Hc5
    iexact Ha11
  isplitl [Ha0 Ha1 Ha2 Ha3 Ha4 Ha5]
  · isplitl [Ha0]
    · iexact Ha0
    isplitl [Ha1]
    · iexact Ha1
    isplitl [Ha2]
    · iexact Ha2
    isplitl [Ha3]
    · iexact Ha3
    isplitl [Ha4]
    · iexact Ha4
    iexact Ha5
  isplitl [Hx]; · iexact Hx
  isplitl [H0]; · iexact H0
  isplitl [H1]; · iexact H1
  isplitl [H2]; · iexact H2
  isplitl [H3]; · iexact H3
  isplitl [Hp Hwa Hw0]
  · unfold idle
    isplitl [Hp]; · iexact Hp
    isplitl [Hwa]; · iexact Hwa
    iexact Hw0
  isplitl [Hq Hwb Hw1]
  · unfold idle
    isplitl [Hq]; · iexact Hq
    isplitl [Hwb]; · iexact Hwb
    iexact Hw1
  isplitl [Ha]; · iexact Ha
  isplitl [Hb]; · iexact Hb
  isplitl [Hoa]; · iexact Hoa
  isplitl [Hob]; · iexact Hob
  isplitl [Hci]; · iexact Hci
  isplitl [Hco]; · iexact Hco
  isplitl [Hxs]; · iexact Hxs
  isplitl [Ho0]; · iexact Ho0
  iexact Ho1

/-- What it hands back to be read: its arrays and its barrier's counter. -/
def Y (c : Dev nD) : sProp 𝕄 :=
  iprop(xAll m c ∗ (((c : Thread nD τ).loc main_arg1) ↦{fullShare} m ((c : Thread nD τ).loc main_arg1)) ∗ outR c 0 (TO m c 0) ∗ outR c 1 (TO m c 1) ∗ unscopedSems0 c)

set_option maxHeartbeats 2000000 in
theorem end_of (c : Dev nD) : End m c ⊢ iprop(Y m c ∗ Pipeline.ownSems0 osem c ∗ Pipeline.scopedRest cfg0.spec c) := by
  rw [scopedRest0_eq]
  unfold Y Pipeline.ownSems0 End idle
  rw [own_list, unscopedSems0_eq]
  iintro ⟨HB, ⟨Ht0, Ht1, Ht2, Ht3, Ht4, Ht5⟩, ⟨Hr0, Hr1, Hr2, Hr3, Hr4, Hr5⟩, Hx, H0, H1, H2, H3, ⟨Hp, Hwa, Hw0⟩, ⟨Hq, Hwb, Hw1⟩, Ha, Hb, Hoa, Hob, Hci, Hco, Hxs, Ho0, Ho1⟩
  ihave Hw := (wP_split m c).2 $$ [Hwa Hwb]
  · isplitl [Hwa] <;> iassumption
  ihave H4 := (slots_join c) $$ [Hp Hq]
  · isplitl [Hp] <;> iassumption
  ihave H5 := (acc_join c) $$ [Ha Hb]
  · isplitl [Ha] <;> iassumption
  isplitl [Hx Hw Hoa Hob HB]
  · isplitl [Hx]; · iexact Hx
    isplitl [Hw]; · iexact Hw
    isplitl [Hoa]; · iexact Hoa
    isplitl [Hob]; · iexact Hob
    iexact HB
  isplitl [Ht0 Ht1 Ht2 Ht3 Ht4 Ht5 Hr0 Hr1 Hr2 Hr3 Hr4 Hr5 Hci Hco Hxs Hw0 Hw1 Ho0 Ho1]
  · isplitl [Ht0]; · iexact Ht0
    isplitl [Ht1]; · iexact Ht1
    isplitl [Ht2]; · iexact Ht2
    isplitl [Ht3]; · iexact Ht3
    isplitl [Ht4]; · iexact Ht4
    isplitl [Ht5]; · iexact Ht5
    isplitl [Hr0]; · iexact Hr0
    isplitl [Hr1]; · iexact Hr1
    isplitl [Hr2]; · iexact Hr2
    isplitl [Hr3]; · iexact Hr3
    isplitl [Hr4]; · iexact Hr4
    isplitl [Hr5]; · iexact Hr5
    isplitl [Hci]; · iexact Hci
    isplitl [Hco]; · iexact Hco
    isplitl [Hxs]; · iexact Hxs
    isplitl [Hw0]; · iexact Hw0
    isplitl [Hw1]; · iexact Hw1
    isplitl [Ho0]; · iexact Ho0
    iexact Ho1
  isplitl [H0]; · iexact H0
  isplitl [H1]; · iexact H1
  isplitl [H2]; · iexact H2
  isplitl [H3]; · iexact H3
  isplitl [H4]; · iexact H4
  iexact H5

/-! ## The run -/

def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => End m c
  q _ := fullShare
  owed t := match t with
    | ⟨0, _⟩ => O₀ c
    | ⟨_ + 1, _⟩ => 0

set_option maxRecDepth 65536 in
/-- The kernel's body is the sequence of its steps. -/
theorem body_eq : (bodyAt0 t0_0 : PR F PUnit) = bodyP := by
  sl_kernel_rfl

theorem bodyP_spec (c : Dev nD) (Q : PUnit → sProp 𝕄) : runs c bodyP Q = runs c (bodyAt c) Q := by
  unfold bodyP runs
  exact wp_deviceId ..

theorem bigSep_none (Φ : Fin cfg0.W → sProp 𝕄) : bigSep Finset.univ Φ = iprop(emp) := by
  rw [show (Finset.univ : Finset (Fin cfg0.W)) = ∅ from Finset.univ_eq_empty (α := Fin 0), bigSep_empty]; rfl

theorem body_obligation (c : Dev nD) : BodyObligation (dats (F := F) m 0 c) (defs₀ (F := F)) 𝒱₀ () Set.univ := fun t => by
  rw [fin_N0 t]
  rw [bigSep_none, bigSep_none]
  show iprop(Φ₀ m c ∗ (dats m 0 c).owesAt () t0_0.castSucc ∗ emp) ⊢ runs c (bodyAt0 t0_0) (fun _ => iprop(End m c ∗ (dats m 0 c).owesAt () t0_0.succ ∗ emp))
  rw [body_eq, bodyP_spec]
  unfold Φ₀ Dat.owesAt Pipeline.owesWithin
  rw [show (dats m 0 c).owed t0_0.castSucc = O₀ c from rfl, show (dats m 0 c).owed t0_0.succ = 0 from rfl]
  iintro ⟨⟨%K, #HR, #Hl, Hs⟩, ⟨%W, -, HO⟩, -⟩
  iapply (bodyAt_spec m K c)
  isplitr; · iexact HR
  isplitr; · iexact Hl
  isplitl [HO]; · iexists W; iexact HO
  isplitl [Hs]; · iexact Hs
  iintro ⟨⟨%W', HO⟩, He⟩
  isplitl [He]; · iexact He
  isplitl [HO]
  · iexists W'
    isplitr; · ipureintro; exact fun _ _ => Or.inl trivial
    iexact HO
  iempintro

theorem ownSemFacts : Pipeline.OwnSemFacts cfg0.spec osem := by decide

theorem start_intro (g : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (g c) ∗ G' m c)
      ⊢ |={Set.univ}=> iprop(X m c ∗ emp) := by
  rw [Pipeline.unscopedRestP_none, unscopedRest0_eq]
  iintro ⟨⟨Hx, Hw, Ho, Hg, Hs⟩, Hlev, Hcr, -, HG⟩
  ihave Hc := (creds (F := F) c) $$ Hcr
  imodintro
  unfold X
  isplitl
  · isplitl [HG]; · iexact HG
    isplitl [Hlev]; · iexact Hlev
    isplitl [Hc]; · iexact Hc
    isplitl [Hx]; · iexact Hx
    isplitl [Hw]; · iexact Hw
    isplitl [Ho]; · iexists _; iexact Ho
    isplitl [Hg]; · iexists _; iexact Hg
    iexists _; iexact Hs
  · iempintro

/-- What a device's final memory is read to be. -/
def Fin1 (c : Dev nD) (s : MemSt nD τ sig (Elt F)) : Prop :=
  s.mem ((c : Thread nD τ).loc main_arg0) = m ((c : Thread nD τ).loc main_arg0)
    ∧ s.mem ((c : Thread nD τ).loc main_arg1) = m ((c : Thread nD τ).loc main_arg1)
    ∧ ∀ h n x, (oW h).view.read (Elt F) (s.mem ((c : Thread nD τ).loc main_v1_0)) (tix n x) = TO m c h n x

theorem out_read (c : Dev nD) (h : Fin 2) (A : Fin 8 → Vec F S1024x512 .f32) (s' : Phys nD τ sig (Elt F)) :
    iprop(SI s' ∗ outR c h A) ⊢ (⌜∀ n x, (oW h).view.read (Elt F) (s'.mem.mem ((c : Thread nD τ).loc main_v1_0)) (tix n x) = A n x⌝ : sProp 𝕄) := by
  unfold outR
  iintro ⟨HSI, ⟨%g, %hg, H⟩⟩
  ihave %h := (SI_pointsTo_agree) $$ [HSI H]
  · isplitl [HSI] <;> iassumption
  ipureintro
  intro n x
  rw [← hg n x]
  exact congrFun (View.read_congr fun i hi => h i hi) (tix n x)

theorem fin_read (c : Dev nD) (s' : Phys nD τ sig (Elt F)) :
    iprop(Y m c ∗ emp ∗ SI s') ⊢ |={Set.univ}=> iprop(⌜Fin1 m c s'.mem ∧ ∀ sm : SemLoc sig, sm.isScoped .tc = false → s'.mem.sem ((c.tc : Thread nD τ), sm) = 0⌝ ∗ SI s') := by
  unfold Y
  iintro ⟨⟨Hx, Hw, Ho0, Ho1, Hu⟩, -, HSI⟩
  ihave %hx := (SI_pointsTo_agree) $$ [HSI Hx]
  · isplitl [HSI] <;> iassumption
  ihave %hw := (SI_pointsTo_agree) $$ [HSI Hw]
  · isplitl [HSI] <;> iassumption
  ihave %h0 := (out_read c 0 _ s') $$ [HSI Ho0]
  · isplitl [HSI] <;> iassumption
  ihave %h1 := (out_read c 1 _ s') $$ [HSI Ho1]
  · isplitl [HSI] <;> iassumption
  imod (Pipeline.unscopedSems0_read (X := unscopedSems0 c) (c := c) fupd_intro s') $$ [Hu HSI] with ⟨%hu, HSI⟩
  · isplitl [Hu] <;> iassumption
  imodintro
  isplitr
  · ipureintro
    exact ⟨⟨funext fun i => hx i (Finset.mem_univ i), funext fun i => hw i (Finset.mem_univ i), fun h => by
      have : h = 0 ∨ h = 1 := by revert h; decide
      rcases this with rfl | rfl
      · exact h0
      · exact h1⟩, hu⟩
  iexact HSI

set_option maxRecDepth 8000 in
/-- For any float values, from any memory with counters at zero: every weakly fair execution of the four devices
    terminates, with the arguments as they were, each device's result the activated sums of products, and every counter back at zero. -/
theorem run_main (g : Dev nD → PrngReg) :
    θ_run defs (onTc (τ := τ) (main (F := F))) ⟨m, fun _ => 0, g⟩ (fun r => (∀ c, Fin1 m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m g main
    (hmain := fun _ => rfl)
    (hbody := fun c => (body_obligation m c).loose) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := fun c => Pipeline.cellsWaits_intro cfgs (dats m) () 0 c fun w => w.elim0)
    (G := G m) (G' := G' m) (u₀ := u₀)
    (hu₀ := by
      unfold u₀
      iintro Hu
      ihave H := (ownU_pair _ _) $$ Hu
      icases H with ⟨HP, HX⟩
      ihave HX := (own_pair_emb embR (initOf allCells allToks) (1 : Counters)) $$ HX
      icases HX with ⟨HX, -⟩
      imod (fund_all m) $$ HX with HG
      imodintro
      isplitl [HP] <;> iassumption)
    (hglob := glob m)
    (hA := fun _ w => w.elim0) (hpf := fun _ k => k.elim0)
    (X := X m) (Y := Y m) (Z := fun _ => iprop(emp))
    (hX := start_intro m g) (hin := fun c => by
      show iprop(X m c ∗ Pipeline.prefHeld Pipeline.Prefetch.none c (fun _ => fullShare.right) (fun k => k.elim0) ∗ Pipeline.scopedRest cfg0.spec c) ⊢ Φ₀ m c
      iintro ⟨H1, -, H2⟩
      iapply (start_of m c)
      isplitl [H1] <;> iassumption)
    (hout := fun c => end_of m c)
    (QY := fun c s => Fin1 m c s ∧ ∀ sm : SemLoc sig, sm.isScoped .tc = false → s.sem ((c.tc : Thread nD τ), sm) = 0)
    (hY := fin_read m)
    (hQ := fun _ h hs => ⟨fun c => (h c).2.2.1, sem_eq_zero hs fun c => (h c).2.2.2⟩)

end Cert.A2A

end
-- ==== Proof.Frames.lean ====
/-
The frames of the programs.
-/
module

public import proofs.«01_k».proof.Defs
public import proofs.«01_k».proof.Proof.Gen.Kernel
public import proofs.«01_k».proof.Proof.Gen.ReferenceIdeal.Run
public import proofs.«01_k».proof.Proof.Gen.ClippedIdeal.Run
public import Idealize.ShloMosaic.Lib.Quiescent
public import proofs.«01_k».proof.Proof.Launch

@[expose] public section

set_option maxRecDepth 65536

noncomputable section

namespace Cert.A2A

open Idealize.ShloMosaic Idealize.ShloMosaic.TcCoe Idealize.SL.Sem
open Cert.Kernel.Gen Cert.KernelIdeal.Gen Cert.ReferenceIdeal.Gen Cert.ClippedIdeal.Gen

/-- The kernel at the words is the same text as its ideal program: the frame asked of it is one of that text. -/
theorem frame_eq : Cert.quiescent_Kernel = (∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)) := by
  sl_kernel_rfl

/-- The kernel at the words runs, leaves its arguments as they were and every counter at zero. -/
theorem frame_kernel : Cert.quiescent_Kernel :=
  frame_eq ▸ fun m g _ => (θ_run _ _ _).mono (fun _ h => ⟨fun c => ⟨(h.1 c).1, (h.1 c).2.1⟩, h.2⟩) (run_main (F := Bits) m g)

/-- The kernel at the extended reals does too. -/
theorem frame_ideal : Cert.quiescent_KernelIdeal :=
  fun m g _ => (θ_run _ _ _).mono (fun _ h => ⟨fun c => ⟨(h.1 c).1, (h.1 c).2.1⟩, h.2⟩) (run_main (F := Ideal) m g)

/-- The reference runs and leaves its arguments; it has no counter. -/
theorem frame_reference : Cert.quiescent_ReferenceIdeal :=
  fun m g _ => (θ_run _ _ _).mono (fun r h => ⟨fun c => (h c).2, sem_eq_zero_of_no_sems (by decide) r.2⟩) (Cert.ReferenceIdeal.Value.run (F := Ideal) m g)

/-- The clipped reference too. -/
theorem frame_clipped : Cert.quiescent_ClippedIdeal :=
  fun m g _ => (θ_run _ _ _).mono (fun r h => ⟨fun c => (h c).2, sem_eq_zero_of_no_sems (by decide) r.2⟩) (Cert.ClippedIdeal.Value.run (F := Ideal) m g)

end Cert.A2A

end
-- ==== Proof.Value.lean ====
/-
What the kernel's result holds at the extended reals: the activation of the whole product, one block of rows to a device.
-/
module

public import proofs.«01_k».proof.Proof.Launch
public import proofs.«01_k».proof.Proof.Gen.ReferenceIdeal.Run
public import Idealize.ShloMosaic.Lib.Pointwise
public import Idealize.ShloMosaic.Lib.Layout

@[expose] public section

noncomputable section

namespace Cert.A2A

open Cert.KernelIdeal Cert.KernelIdeal.Gen
open Idealize.ShloMosaic Idealize.ShloMosaic.TcCoe

/-! ## The activation -/

/-- The activation of one number: it times the reciprocal of one and the exponential of its negative. -/
def act (v : EReal) : EReal := v * (1 + Ideal.exp (-v))⁻¹

theorem exp_nonneg (v : EReal) : 0 ≤ Ideal.exp v := by
  induction v with
  | bot => exact le_refl _
  | top => exact le_top
  | coe r => exact EReal.coe_nonneg.2 (Real.exp_pos r).le

/-- Its denominator is never zero. -/
theorem one_add_exp_ne (v : EReal) : 1 + Ideal.exp v ≠ 0 :=
  (lt_of_lt_of_le zero_lt_one (le_add_of_nonneg_right (exp_nonneg v))).ne'

theorem payS_apply (a : Vec Ideal S1024x512 .f32) (x : S1024x512.Idx) : payS (F := Ideal) a x = act (a x) := by
  unfold payS
  pointwise
  rw [zero_sub, Ideal.div, if_neg (one_add_exp_ne _), one_mul]
  rfl

/-! ## The products of tiles -/

theorem payA_apply (u : Vec Ideal S1024x2048 .f32) (w : Vec Ideal S2048x512 .f32) (x : S1024x512.Idx) :
    payA (F := Ideal) u w x = ∑ k : Fin 2048, u (ix2 (x 0) k) * w (ix2 k (x 1)) := by
  unfold payA
  pointwise

theorem payB_apply (u : Vec Ideal S1024x2048 .bf16) (w : Vec Ideal S2048x512 .f32) (a : Vec Ideal S1024x512 .f32) (x : S1024x512.Idx) :
    payB (F := Ideal) u w a x = a x + ∑ k : Fin 2048, u (ix2 (x 0) k) * w (ix2 k (x 1)) := by
  unfold payB
  pointwise

/-! ## The reference -/

/-- Position `k` of block `s` of the contraction. -/
def lane (s : Fin 4) (k : Fin 2048) : Fin 8192 := ⟨2048 * s.val + k.val, by have := s.isLt; have := k.isLt; omega⟩

section
variable (X : FVec Ideal ReferenceIdeal.S8192x8192 .f32) (W : FVec Ideal ReferenceIdeal.S8192x4096 .f32)

/-- What block `s` of the contraction adds to the product at row `r`, column `n`. -/
def part (r : Fin 8192) (n : Fin 4096) (s : Fin 4) : EReal := ∑ k : Fin 2048, X (ix2 r (lane s k)) * W (ix2 (lane s k) n)

/-- The reference's result: the activation of the product. -/
def refOut : FVec Ideal ReferenceIdeal.S8192x4096 .f32 := fun i => act (∑ k : Fin 8192, X (ix2 (i 0) k) * W (ix2 k (i 1)))

/-- The contraction by its four blocks. -/
theorem sum_parts (r : Fin 8192) (n : Fin 4096) : ∑ k : Fin 8192, X (ix2 r k) * W (ix2 k n) = ∑ s : Fin 4, part X W r n s := by
  unfold part
  rw [← Fintype.sum_prod_type' fun (s : Fin 4) (k : Fin 2048) => X (ix2 r (lane s k)) * W (ix2 (lane s k) n)]
  refine (Fintype.sum_equiv (finProdFinEquiv (m := 4) (n := 2048)) _ _ fun p => ?_).symm
  have e : lane p.1 p.2 = finProdFinEquiv (m := 4) (n := 2048) p := Fin.ext (Nat.add_comm _ _)
  rw [e]

/-- The blocks in the order in which a device takes them. -/
theorem parts_around (f : Dev nD → EReal) (c : Dev nD) : f c + f (add c 3) + f (add c 1) + f (add c 2) = ∑ s : Fin 4, f s := by
  rw [Fin.sum_univ_four]
  fin_cases c
  · show f 0 + f 3 + f 1 + f 2 = f 0 + f 1 + f 2 + f 3; ac_rfl
  · show f 1 + f 0 + f 2 + f 3 = f 0 + f 1 + f 2 + f 3; ac_rfl
  · show f 2 + f 1 + f 3 + f 0 = f 0 + f 1 + f 2 + f 3; ac_rfl
  · show f 3 + f 2 + f 0 + f 1 = f 0 + f 1 + f 2 + f 3; ac_rfl

open Cert.ReferenceIdeal Cert.ReferenceIdeal.Gen in
theorem ref_eq : Host.divf (Host.dotGeneral dot_S8192x8192_S8192x4096_S8192x4096_1_0_0_1_n_n none X W)
    (addf (broadcastInDim ReferenceIdeal.S8192x4096 ![] bcast_S_S8192x4096 (constant ReferenceIdeal.S_ .f32 0x3F800000#32))
      (Host.exp (Host.negf (Host.dotGeneral dot_S8192x8192_S8192x4096_S8192x4096_1_0_0_1_n_n none X W)))) = refOut X W := by
  funext i
  unfold refOut act
  pointwise
  rw [Ideal.div, if_neg (one_add_exp_ne _)]

/-! ## The kernel's result -/

variable (m : (ℓ : Loc nD τ sig) → Buf (Elt Ideal) ℓ)

/-- The devices hold the reference's arguments: the columns of the first in four blocks, the second whole. -/
def Holds : Prop := (∀ s : Dev nD, m ((s : Thread nD τ).loc main_arg0) = Layout.block ⟨2, ![8192, 2048]⟩ ⟨2, ![8192, 8192]⟩ 1 4 s X)
  ∧ ∀ s : Dev nD, m ((s : Thread nD τ).loc main_arg1) = W

/-- The row of the whole result that is row `r` of half `h` of device `c`'s block. -/
def row (c : Dev nD) (h : Fin 2) (r : Fin 1024) : Fin 8192 :=
  ⟨2048 * c.val + 1024 * h.val + r.val, by have : c.val < 4 := c.isLt; have := h.isLt; have := r.isLt; omega⟩
/-- The column that is column `j` of tile `n`. -/
def col (n : Fin 8) (j : Fin 512) : Fin 4096 := ⟨512 * n.val + j.val, by have := n.isLt; have := j.isLt; omega⟩

variable {X W m}

theorem XO_apply (H : Holds X W m) (s t : Dev nD) (h : Fin 2) (r : Fin 1024) (k : Fin 2048) :
    (xW t h).view.read (Elt Ideal) (m ((s : Thread nD τ).loc main_arg0)) (ix2 r k) = X (ix2 (row t h r) (lane s k)) := by
  rw [H.1 s]
  have e := ValueKit.rect_emb_unit_val (s := S8192x2048) ![2048 * t.val + 1024 * h.val, 0] S1024x2048.size (xO_inb t h) (ix2 r k)
  refine congrArg X (Shape.idx_ext₂ ?_ ?_)
  · exact e 0
  · refine (congrArg (s.val * 2048 + ·) (e 1)).trans ?_
    show s.val * 2048 + (0 + k.val) = 2048 * s.val + k.val
    omega

theorem XS_apply (H : Holds X W m) (s t : Dev nD) (h : Fin 2) (r : Fin 1024) (k : Fin 2048) :
    XS m s t h (ix2 r k) = X (ix2 (row t h r) (lane s k)) := XO_apply H s t h r k

theorem WV_apply (H : Holds X W m) (c s : Dev nD) (n : Fin 8) (k : Fin 2048) (j : Fin 512) :
    WV m c s n (ix2 k j) = W (ix2 (lane s k) (col n j)) := by
  unfold WV
  rw [H.2 c]
  have e := ValueKit.rect_emb_unit_val (s := S8192x4096) ![2048 * s.val, 512 * n.val] S2048x512.size (wO_inb s n) (ix2 k j)
  exact congrArg W (Shape.idx_ext₂ (e 0) (e 1))

/-- A tile of a device's result: the activation of the whole product there. -/
theorem TO_apply (H : Holds X W m) (c : Dev nD) (h : Fin 2) (n : Fin 8) (x : S1024x512.Idx) :
    TO m c h n x = refOut X W (ix2 (row c h (x 0)) (col n (x 1))) := by
  have hS : ∀ s : Dev nD, ∑ k : Fin 2048, XS m s c h (ix2 (x 0) k) * WV m c s n (ix2 k (x 1)) = part X W (row c h (x 0)) (col n (x 1)) s :=
    fun s => Finset.sum_congr rfl fun k _ => congrArg₂ (fun a b : EReal => a * b) (XS_apply H s c h (x 0) k) (WV_apply H c s n k (x 1))
  have hO : ∑ k : Fin 2048, XO m c h (ix2 (x 0) k) * WV m c c n (ix2 k (x 1)) = part X W (row c h (x 0)) (col n (x 1)) c :=
    Finset.sum_congr rfl fun k _ => congrArg₂ (fun a b : EReal => a * b) (XO_apply H c c h (x 0) k) (WV_apply H c c n k (x 1))
  unfold TO T4 T3 T2 T1
  rw [payS_apply, payB_apply, payB_apply, payB_apply, payA_apply, hS, hS, hS, hO, parts_around]
  exact congrArg act (sum_parts X W _ _).symm

/-- A device's result, its tiles being these: its block of the reference's. -/
theorem result_eq (H : Holds X W m) (c : Dev nD) (f : Buf (Elt Ideal) ((c : Thread nD τ).loc main_v1_0))
    (hf : ∀ h n x, (oW h).view.read (Elt Ideal) f (tix n x) = TO m c h n x) :
    f = Layout.block ⟨2, ![2048, 4096]⟩ ⟨2, ![8192, 4096]⟩ 0 4 c (refOut X W) := by
  funext i
  have h0 : (i 0).val < 2048 := (i 0).isLt
  have h1 : (i 1).val < 4096 := (i 1).isLt
  let h : Fin 2 := ⟨(i 0).val / 1024, by omega⟩
  let n : Fin 8 := ⟨(i 1).val / 512, by omega⟩
  let x : S1024x512.Idx := ix2 ⟨(i 0).val % 1024, Nat.mod_lt _ (by decide)⟩ ⟨(i 1).val % 512, Nat.mod_lt _ (by decide)⟩
  have e := ValueKit.rect_emb_unit_val (s := S2048x4096) ![1024 * h.val, 0] S1024x4096.size (hO_inb h) (tix n x)
  have e0 : 1024 * ((i 0).val / 1024) + (i 0).val % 1024 = (i 0).val := Nat.div_add_mod _ _
  have e1 : 512 * ((i 1).val / 512) + (i 1).val % 512 = (i 1).val := Nat.div_add_mod _ _
  have hi : (oW h).view.emb (tix n x) = i :=
    Shape.idx_ext₂ ((e 0).trans e0) ((e 1).trans ((Nat.zero_add _).trans e1))
  refine (congrArg f hi).symm.trans ((hf h n x).trans ((TO_apply H c h n x).trans (congrArg (refOut X W) (Shape.idx_ext₂ ?_ ?_))))
  · show 2048 * c.val + 1024 * ((i 0).val / 1024) + (i 0).val % 1024 = c.val * 2048 + (i 0).val
    omega
  · exact e1

end

end Cert.A2A

end
-- ==== Proof.Clip.lean ====
/-
The reference with its exponent's argument clipped: where the devices' products are moderate, the clip changes nothing.
-/
module

public import proofs.«01_k».proof.Defs
public import proofs.«01_k».proof.Proof.Value
public import proofs.«01_k».proof.Proof.Gen.ClippedIdeal.Run
public import proofs.«01_k».proof.Proof.Gen.Pre_moderate_KernelIdeal
public import Idealize.ShloMosaic.Lib.ReduceAll
public import Idealize.ShloMosaic.Lib.Affine

@[expose] public section

noncomputable section

namespace Cert.A2A

open Idealize.ShloMosaic Idealize.ShloMosaic.TcCoe

variable (X : FVec Ideal ReferenceIdeal.S8192x8192 .f32) (W : FVec Ideal ReferenceIdeal.S8192x4096 .f32)

/-! ## The clipped reference -/

/-- A number within 60 of zero. -/
def Within (v : EReal) : Prop := -60 ≤ v ∧ v ≤ 60

theorem ofBits_sixty : Ideal.ofBits .f32 0x42700000#32 = 60 := by
  simp [Ideal.ofBits, Ideal.ieee]
  rw [← EReal.coe_mul]
  norm_num
  rfl
theorem ofBits_neg_sixty : Ideal.ofBits .f32 0xC2700000#32 = -60 := by
  simp [Ideal.ofBits, Ideal.ieee]
  rw [← EReal.coe_mul]
  norm_num
  rfl

open Cert.ClippedIdeal Cert.ClippedIdeal.Gen in
theorem clipped_eq (hW : ∀ r n, Within (∑ k : Fin 8192, X (ix2 r k) * W (ix2 k n))) :
    Host.divf (Host.dotGeneral dot_S8192x8192_S8192x4096_S8192x4096_1_0_0_1_n_n none X W)
    (addf (broadcastInDim ClippedIdeal.S8192x4096 ![] bcast_S_S8192x4096 (constant ClippedIdeal.S_ .f32 0x3F800000#32))
      (Host.exp (Host.negf (minimumf (broadcastInDim ClippedIdeal.S8192x4096 ![] bcast_S_S8192x4096 (id (constant ClippedIdeal.S_ .f32 0x42700000#32)))
        (maximumf (broadcastInDim ClippedIdeal.S8192x4096 ![] bcast_S_S8192x4096 (id (constant ClippedIdeal.S_ .f32 0xC2700000#32)))
          (Host.dotGeneral dot_S8192x8192_S8192x4096_S8192x4096_1_0_0_1_n_n none X W)))))) = refOut X W := by
  funext i
  unfold refOut act
  pointwise
  rw [show id (constant (F := Ideal) ClippedIdeal.S_ .f32 0x42700000#32) ix0 = Ideal.ofBits .f32 0x42700000#32 from rfl,
    show id (constant (F := Ideal) ClippedIdeal.S_ .f32 0xC2700000#32) ix0 = Ideal.ofBits .f32 0xC2700000#32 from rfl, ofBits_sixty, ofBits_neg_sixty,
    max_eq_right (hW (i 0) (i 1)).1, min_eq_right (hW (i 0) (i 1)).2, Ideal.div, if_neg (one_add_exp_ne _)]

/-! ## What the precondition says -/

/-- The bits of the bound. -/
theorem ofBits_fifteen : Ideal.ofBits .f32 0x41700000#32 = 15 := by
  simp [Ideal.ofBits, Ideal.ieee]
  rw [← EReal.coe_mul]
  norm_num
  rfl

/-- A product's being moderate, read at one index. -/
theorem bound_of (u : FVec Ideal Pre_moderate_KernelIdeal.S8192x2048 .f32) (w : FVec Ideal Pre_moderate_KernelIdeal.S8192x4096 .f32)
    (s : Fin 4) (r : Fin 8192) (n : Fin 4096) (f : Fin 2048 → Fin 8192) (hf : ∀ k, (f k).val = 2048 * s.val + k.val)
    (h : BitVec.ofBool (decide (FloatOps.absf (φ := .f32) (∑ k : Fin 2048, u (ix2 r k) * w (ix2 (f k) n) : EReal) ≤ Ideal.ofBits .f32 0x41700000#32)) = 1#1) :
    -15 ≤ ∑ k : Fin 2048, u (ix2 r k) * w (ix2 (lane s k) n) ∧ ∑ k : Fin 2048, u (ix2 r k) * w (ix2 (lane s k) n) ≤ 15 := by
  rw [show f = lane s from funext fun k => Fin.ext (hf k)] at h
  rw [Ideal.absf_def, ofBits_fifteen] at h
  have h' : max (∑ k : Fin 2048, u (ix2 r k) * w (ix2 (lane s k) n)) (-∑ k : Fin 2048, u (ix2 r k) * w (ix2 (lane s k) n)) ≤ 15 := by
    by_contra hn
    rw [decide_eq_false hn] at h
    exact absurd h (by decide)
  exact ⟨EReal.neg_le.1 ((le_max_right _ _).trans h'), (le_max_left _ _).trans h'⟩

open Cert.Pre_moderate_KernelIdeal Cert.Pre_moderate_KernelIdeal.Gen in
/-- The products of a device's columns with the four blocks of rows are at most 15 from zero. -/
theorem moderate_apply (u : FVec Ideal Pre_moderate_KernelIdeal.S8192x2048 .f32) (w : FVec Ideal Pre_moderate_KernelIdeal.S8192x4096 .f32)
    (h : Pre_moderate_KernelIdeal.fn (F := Ideal) u w = fun _ => 1#1) (s : Fin 4) (r : Fin 8192) (n : Fin 4096) :
    -15 ≤ ∑ k : Fin 2048, u (ix2 r k) * w (ix2 (lane s k) n) ∧ ∑ k : Fin 2048, u (ix2 r k) * w (ix2 (lane s k) n) ≤ 15 := by
  replace h := congrFun h ix0
  unfold Pre_moderate_KernelIdeal.fn Pre_moderate_KernelIdeal.fn_part1 at h
  obtain ⟨h, h3⟩ := IntOp.andi_eq_one.1 h
  obtain ⟨h, h2⟩ := IntOp.andi_eq_one.1 h
  obtain ⟨h, h1⟩ := IntOp.andi_eq_one.1 h
  obtain ⟨-, h0⟩ := IntOp.andi_eq_one.1 h
  replace h0 := Host.reduce_andi_all _ _ _ _ _ h0 (ix2 r n)
  replace h1 := Host.reduce_andi_all _ _ _ _ _ h1 (ix2 r n)
  replace h2 := Host.reduce_andi_all _ _ _ _ _ h2 (ix2 r n)
  replace h3 := Host.reduce_andi_all _ _ _ _ _ h3 (ix2 r n)
  pointwise at h0
  pointwise at h1
  pointwise at h2
  pointwise at h3
  fin_cases s
  · exact bound_of u w 0 r n _ (fun k => (Nat.zero_add _).symm) h0
  · exact bound_of u w 1 r n _ (fun k => rfl) h1
  · exact bound_of u w 2 r n _ (fun k => rfl) h2
  · exact bound_of u w 3 r n _ (fun k => rfl) h3

variable {X W}
variable {m : (ℓ : Loc KernelIdeal.nD KernelIdeal.τ KernelIdeal.sig) → Buf (Elt Ideal) ℓ}

/-- Where every device's products are moderate, the whole product is within 60. -/
theorem within_of_moderate (H : Holds X W m) (hm : Cert.Pre_KernelIdeal_moderate_KernelIdeal m) (r : Fin 8192) (n : Fin 4096) :
    Within (∑ k : Fin 8192, X (ix2 r k) * W (ix2 k n)) := by
  have hp : ∀ s : Fin 4, -15 ≤ part X W r n s ∧ part X W r n s ≤ 15 := by
    intro s
    have a := moderate_apply _ _ (hm s) s r n
    rw [H.1 s, H.2 s] at a
    have e : ∀ k : Fin 2048, Layout.block (⟨2, ![8192, 2048]⟩ : Shape) ⟨2, ![8192, 8192]⟩ 1 4 s X (by decide) (ix2 r k) = X (ix2 r (lane s k)) :=
      fun k => congrArg X (Shape.idx_ext₂ rfl (congrArg (· + k.val) (Nat.mul_comm s.val 2048)))
    have e' : part X W r n s = ∑ k : Fin 2048, Layout.block (⟨2, ![8192, 2048]⟩ : Shape) ⟨2, ![8192, 8192]⟩ 1 4 s X (by decide) (ix2 r k) * W (ix2 (lane s k) n) :=
      Finset.sum_congr rfl fun k _ => congrArg (fun a : EReal => a * W (ix2 (lane s k) n)) (e k).symm
    rw [e']
    exact a
  have up : (15 + 15 + 15 + 15 : EReal) = 60 := by norm_num
  have dn : (-15 + -15 + -15 + -15 : EReal) = -60 := by
    rw [show (-15 : EReal) = ((-15 : ℝ) : EReal) from rfl, ← EReal.coe_add, ← EReal.coe_add, ← EReal.coe_add]
    norm_num
    rfl
  rw [sum_parts, Fin.sum_univ_four]
  constructor
  · rw [← dn]
    exact add_le_add (add_le_add (add_le_add (hp 0).1 (hp 1).1) (hp 2).1) (hp 3).1
  · rw [← up]
    exact add_le_add (add_le_add (add_le_add (hp 0).2 (hp 1).2) (hp 2).2) (hp 3).2

end Cert.A2A

end
-- ==== Proof.lean ====
/-
The certificate: the frames of the programs, the ideal program's being the kernel, and the kernel's computing
the reference's function over the extended reals: silu, and silu with its exponent's argument clipped where the devices'
products are moderate.
-/
module

public import proofs.«01_k».proof.Defs
public import proofs.«01_k».proof.Proof.Gen.Kernel
public import proofs.«01_k».proof.Proof.Gen.KernelIdeal
public import proofs.«01_k».proof.Proof.Gen.KernelIdeal.Points
public import proofs.«01_k».proof.Proof.Gen.ReferenceIdeal
public import proofs.«01_k».proof.Proof.Gen.ReferenceIdeal.Run
public import proofs.«01_k».proof.Proof.Gen.ClippedIdeal
public import proofs.«01_k».proof.Proof.Gen.ClippedIdeal.Run
public import proofs.«01_k».proof.Proof.Gen.Pre_moderate_KernelIdeal
public import proofs.«01_k».proof.Proof.Gen.Pre_moderate_ClippedIdeal
public import proofs.«01_k».proof.Proof.Frames
public import proofs.«01_k».proof.Proof.Value
public import proofs.«01_k».proof.Proof.Clip

@[expose] public section

noncomputable section

namespace Cert.Proof

open Idealize.ShloMosaic Idealize.ShloMosaic.TcCoe Idealize.SL.Sem
open Cert.KernelIdeal.Gen Cert.ReferenceIdeal.Gen Cert.ClippedIdeal.Gen Cert.Pre_moderate_KernelIdeal.Gen

/-- Each device ends with its block of the reference's result. -/
theorem algebraic : Cert.algebraic_KernelIdeal_ReferenceIdeal := by
  intro m g m' g' _ hm
  have H : A2A.Holds _ _ m := ⟨fun c => (hm c).1, fun c => (hm c).2⟩
  refine ⟨A2A.refOut _ _, (θ_run _ _ _).mono (fun r h c => ⟨A2A.result_eq H c _ (h.1 c).2.2, (h.1 c).1, (h.1 c).2.1⟩) (A2A.run_main (F := Ideal) m g), ?_⟩
  exact (θ_run _ _ _).mono (fun r h => ⟨(h 0).1.trans (A2A.ref_eq _ _), (h 0).2.1, (h 0).2.2⟩) (Cert.ReferenceIdeal.Value.run (F := Ideal) m' g')

/-- The same with the clip, where the products are moderate. -/
theorem algebraic_clipped : Cert.algebraic_KernelIdeal_ClippedIdeal_pre_moderate_KernelIdeal := by
  intro m g m' g' hp hm
  have H : A2A.Holds _ _ m := ⟨fun c => (hm c).1, fun c => (hm c).2⟩
  refine ⟨A2A.refOut _ _, (θ_run _ _ _).mono (fun r h c => ⟨A2A.result_eq H c _ (h.1 c).2.2, (h.1 c).1, (h.1 c).2.1⟩) (A2A.run_main (F := Ideal) m g), ?_⟩
  exact (θ_run _ _ _).mono (fun r h => ⟨(h 0).1.trans (A2A.clipped_eq _ _ (A2A.within_of_moderate H hp)), (h 0).2.1, (h 0).2.2⟩)
    (Cert.ClippedIdeal.Value.run (F := Ideal) m' g')

theorem claim : Cert.Claim :=
  ⟨Cert.Kernel.Gen.facts, Cert.KernelIdeal.Gen.facts, Cert.ReferenceIdeal.Gen.facts, Cert.ClippedIdeal.Gen.facts,
    Cert.Pre_moderate_KernelIdeal.Gen.facts, Cert.Pre_moderate_ClippedIdeal.Gen.facts,
    A2A.frame_kernel, A2A.frame_ideal, fun m g _ => A2A.frame_ideal m g trivial, A2A.frame_reference,
    A2A.frame_clipped, fun m g _ => A2A.frame_clipped m g trivial, trivial, algebraic, algebraic_clipped⟩

end Cert.Proof

end
